-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x1024x16 : Shape := ⟨3, ![16, 1024, 16]⟩
abbrev S16x1024 : Shape := ⟨2, ![16, 1024]⟩
abbrev S512x64 : Shape := ⟨2, ![512, 64]⟩
abbrev S_ : Shape := ⟨0, ![]⟩
abbrev S1x64 : Shape := ⟨2, ![1, 64]⟩
abbrev S64 : Shape := ⟨1, ![64]⟩

class Facts : Prop where
  bcast_S_S16x1024x16 : S_.BroadcastsInDim S16x1024x16 (![] : Fin 0 → Fin S16x1024x16.rank)
  reducesTo_S16x1024x16_S_d0_1_2 : S16x1024x16.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  slices_S512x64_S1x64_0_0 : S512x64.Slices ![0, 0] S1x64
  shapeCasts_S1x64_S64 : S1x64.ShapeCasts S64
  bcast_S_S64 : S_.BroadcastsInDim S64 (![] : Fin 0 → Fin S64.rank)
  reducesTo_S64_S_d0 : S64.ReducesTo [0] S_

variable [Facts]

def fn_part1 {F : FTy → Type} [FloatOps F] (main_v12 : IVec S_ 1) (main_v16 : IVec S64 1) : IVec S_ 1 :=
  let main_c_6 : IVec S_ 1 := constantI S_ 1 1#1
  let main_v17 : IVec S_ 1 := (fun x v => Host.reduce IntOp.andi x v reducesTo_S64_S_d0 h_S_) main_v16 main_c_6
  let main_v18 : IVec S_ 1 := andi main_v12 main_v17
  main_v18

def fn {F : FTy → Type} [FloatOps F] (main_arg0 : IVec S16x1024x16 32) (main_arg1 : IVec S16x1024 32) (main_arg2 : IVec S512x64 32) : IVec S_ 1 :=
  let main_c : IVec S_ 32 := constantI S_ 32 0#32
  let main_v0 : IVec S16x1024x16 32 := broadcastInDim S16x1024x16 ![] bcast_S_S16x1024x16 main_c
  let main_v1 : IVec S16x1024x16 1 := cmpi .sge main_arg0 main_v0
  let main_c_0 : IVec S_ 32 := constantI S_ 32 512#32
  let main_v2 : IVec S16x1024x16 32 := broadcastInDim S16x1024x16 ![] bcast_S_S16x1024x16 main_c_0
  let main_v3 : IVec S16x1024x16 1 := cmpi .slt main_arg0 main_v2
  let main_v4 : IVec S16x1024x16 1 := andi main_v1 main_v3
  let main_c_1 : IVec S_ 1 := constantI S_ 1 1#1
  let main_v5 : IVec S_ 1 := (fun x v => Host.reduce IntOp.andi x v reducesTo_S16x1024x16_S_d0_1_2 h_S_) main_v4 main_c_1
  let main_c_2 : IVec S_ 32 := constantI S_ 32 0#32
  let main_v6 : IVec S16x1024 32 := broadcastInDim S16x1024 ![] bcast_S_S16x1024 main_c_2
  let main_v7 : IVec S16x1024 1 := cmpi .sge main_arg1 main_v6
  let main_c_3 : IVec S_ 32 := constantI S_ 32 16#32
  let main_v8 : IVec S16x1024 32 := broadcastInDim S16x1024 ![] bcast_S_S16x1024 main_c_3
  let main_v9 : IVec S16x1024 1 := cmpi .sle main_arg1 main_v8
  let main_v10 : IVec S16x1024 1 := andi main_v7 main_v9
  let main_c_4 : IVec S_ 1 := constantI S_ 1 1#1
  let main_v11 : IVec S_ 1 := (fun x v => Host.reduce IntOp.andi x v reducesTo_S16x1024_S_d0_1 h_S_) main_v10 main_c_4
  let main_v12 : IVec S_ 1 := andi main_v5 main_v11
  let main_v13 : IVec S1x64 32 := (extractStridedSlice S1x64 ![0, 0] · slices_S512x64_S1x64_0_0) main_arg2
  let main_v14 : IVec S64 32 := shapeCast S64 main_v13 shapeCasts_S1x64_S64
  let main_c_5 : IVec S_ 32 := constantI S_ 32 0#32
  let main_v15 : IVec S64 32 := broadcastInDim S64 ![] bcast_S_S64 main_c_5
  let main_v16 : IVec S64 1 := cmpi .eq main_v14 main_v15
  fn_part1 (F := F) main_v12 main_v16
-- ==== Kernel.lean ====
abbrev S16x1024x16 : Shape := ⟨3, ![16, 1024, 16]⟩
abbrev S16x1024 : Shape := ⟨2, ![16, 1024]⟩
abbrev S512x64 : Shape := ⟨2, ![512, 64]⟩
abbrev S16384x16 : Shape := ⟨2, ![16384, 16]⟩
abbrev S16384 : Shape := ⟨1, ![16384]⟩
abbrev S16384x128 : Shape := ⟨2, ![16384, 128]⟩
abbrev S512x16 : Shape := ⟨2, ![512, 16]⟩
abbrev S512 : Shape := ⟨1, ![512]⟩
abbrev S256x128 : Shape := ⟨2, ![256, 128]⟩
abbrev S_ : Shape := ⟨0, ![]⟩
abbrev S16 : Shape := ⟨1, ![16]⟩
abbrev S1x16 : Shape := ⟨2, ![1, 16]⟩
abbrev S16x1024x128 : Shape := ⟨3, ![16, 1024, 128]⟩

abbrev nBuf : Table → Nat
  | .hbm => 7
  | .local .scVector .vmem => 4
  | _ => 0

abbrev bufTy : (tb : Table) → Fin (nBuf tb) → BufTy
  | .hbm, ⟨0, _⟩ => ⟨S16x1024x16, .i32⟩
  | .hbm, ⟨1, _⟩ => ⟨S16x1024, .i32⟩
  | .hbm, ⟨2, _⟩ => ⟨S512x64, .i32⟩
  | .hbm, ⟨3, _⟩ => ⟨S16384x16, .i32⟩
  | .hbm, ⟨4, _⟩ => ⟨S16384, .i32⟩
  | .hbm, ⟨5, _⟩ => ⟨S16384x128, .f32⟩
  | .hbm, ⟨6, _⟩ => ⟨S16x1024x128, .f32⟩
  | .local .scVector .vmem, ⟨0, _⟩ => ⟨S512x64, .i32⟩
  | .local .scVector .vmem, ⟨1, _⟩ => ⟨S512x16, .i32⟩
  | .local .scVector .vmem, ⟨2, _⟩ => ⟨S512, .i32⟩
  | .local .scVector .vmem, ⟨3, _⟩ => ⟨S256x128, .f32⟩
  | _, _ => ⟨S16x1024x16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_arg2_scv : Ref sig .scVector := ⟨.hbm, 2, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_14_r1 : BitVec 32 := 0#32
  ![v2.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_1 : BitVec 32 := 0#32
  let c512_i32_2 : BitVec 32 := 512#32
  let v12 : BitVec 32 := Scalar.addi c0_i32_1 c512_i32_2
  let c1_i32 : BitVec 32 := 1#32
  ⟨c0_i32_1, v12, c1_i32⟩

def k0_chk1 (v17 : IVec S16 32) : Prop :=
  (∀ a x, ((![v17] : Fin 1 → IVec S16 32) a x).toNat < S512.size a)
theorem k0_idx1_inb : ∀ (v17 : IVec S16 32) (k0_hw1 : k0_chk1 v17), ∀ a x, ((![v17] : Fin 1 → IVec S16 32) a x).toNat < S512.size a := fun v17 k0_hw1 => k0_hw1
def k0_off3 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v19 : Index := Scalar.indexCast arg10
  let c0 : Index := 0#32
  ![v19.toNat, 0]
@[reducible] def k0_t2_loop : Scf.Loop 32 :=
  let c0_i32_5 : BitVec 32 := 0#32
  let c128_i32 : BitVec 32 := 128#32
  let v13 : BitVec 32 := Scalar.addi c0_i32_5 c128_i32
  let c1_i32_6 : BitVec 32 := 1#32
  ⟨c0_i32_5, v13, c1_i32_6⟩

def k0_chk2 (v18 : IVec S16 32) : Prop :=
  (∀ a x, ((![v18] : Fin 1 → IVec S16 32) a x).toNat < S512.size a)
theorem k0_idx2_inb : ∀ (v18 : IVec S16 32) (k0_hw2 : k0_chk2 v18), ∀ a x, ((![v18] : Fin 1 → IVec S16 32) a x).toNat < S512.size a := fun v18 k0_hw2 => k0_hw2

def k0_chk3 (v20 : IVec S16 32) : Prop :=
  (∀ a x, ((![v20] : Fin 1 → IVec S16 32) a x).toNat < S512.size a)
theorem k0_idx3_inb : ∀ (v20 : IVec S16 32) (k0_hw3 : k0_chk3 v20), ∀ a x, ((![v20] : Fin 1 → IVec S16 32) a x).toNat < S512.size a := fun v20 k0_hw3 => k0_hw3
@[reducible] def k0_t3_loop (v29 : BitVec 32) : Scf.Loop 32 :=
  let c0_i32_20 : BitVec 32 := 0#32
  let v41 : BitVec 32 := Scalar.subi v29 c0_i32_20
  let c1_i32_21 : BitVec 32 := 1#32
  let v43 : BitVec 32 := Scalar.divsi v41 c1_i32_21
  let v44 : BitVec 32 := Scalar.muli v43 c1_i32_21
  let v45 : BitVec 32 := Scalar.addi c0_i32_20 v44
  let c1_i32_22 : BitVec 32 := 1#32
  ⟨c0_i32_20, v45, c1_i32_22⟩

def k0_chk5 (v18 : IVec S16 32) (v20 : IVec S16 32) (v104 : IVec S16 32) : Prop :=
  (∀ a x, ((![v18, v104] : Fin 2 → IVec S16 32) a x).toNat < S512x16.size a) ∧
  (∀ a x, ((![v20, v104] : Fin 2 → IVec S16 32) a x).toNat < S512x16.size a)
theorem k0_idx4_inb : ∀ (v18 : IVec S16 32) (v20 : IVec S16 32) (v104 : IVec S16 32) (k0_hw5 : k0_chk5 v18 v20 v104), ∀ a x, ((![v18, v104] : Fin 2 → IVec S16 32) a x).toNat < S512x16.size a := fun v18 v20 v104 k0_hw5 => k0_hw5.1
theorem k0_idx5_inb : ∀ (v18 : IVec S16 32) (v20 : IVec S16 32) (v104 : IVec S16 32) (k0_hw5 : k0_chk5 v18 v20 v104), ∀ a x, ((![v20, v104] : Fin 2 → IVec S16 32) a x).toNat < S512x16.size a := fun v18 v20 v104 k0_hw5 => k0_hw5.2

def k0_chk6 (v5 : IVec S16 32) (v7 : IVec S16 32) (v9 : IVec S16 32) (v11 : IVec S16 32) (v105 : IVec S16 32) : Prop :=
  (∀ a x, ((![v105, v5] : Fin 2 → IVec S16 32) a x).toNat < S512x64.size a) ∧
  (∀ a x, ((![v105, v7] : Fin 2 → IVec S16 32) a x).toNat < S512x64.size a) ∧
  (∀ a x, ((![v105, v9] : Fin 2 → IVec S16 32) a x).toNat < S512x64.size a) ∧
  (∀ a x, ((![v105, v11] : Fin 2 → IVec S16 32) a x).toNat < S512x64.size a)
theorem k0_idx6_inb : ∀ (v5 : IVec S16 32) (v7 : IVec S16 32) (v9 : IVec S16 32) (v11 : IVec S16 32) (v105 : IVec S16 32) (k0_hw6 : k0_chk6 v5 v7 v9 v11 v105), ∀ a x, ((![v105, v5] : Fin 2 → IVec S16 32) a x).toNat < S512x64.size a := fun v5 v7 v9 v11 v105 k0_hw6 => k0_hw6.1
theorem k0_idx8_inb : ∀ (v5 : IVec S16 32) (v7 : IVec S16 32) (v9 : IVec S16 32) (v11 : IVec S16 32) (v105 : IVec S16 32) (k0_hw6 : k0_chk6 v5 v7 v9 v11 v105), ∀ a x, ((![v105, v7] : Fin 2 → IVec S16 32) a x).toNat < S512x64.size a := fun v5 v7 v9 v11 v105 k0_hw6 => k0_hw6.2.1
theorem k0_idx10_inb : ∀ (v5 : IVec S16 32) (v7 : IVec S16 32) (v9 : IVec S16 32) (v11 : IVec S16 32) (v105 : IVec S16 32) (k0_hw6 : k0_chk6 v5 v7 v9 v11 v105), ∀ a x, ((![v105, v9] : Fin 2 → IVec S16 32) a x).toNat < S512x64.size a := fun v5 v7 v9 v11 v105 k0_hw6 => k0_hw6.2.2.1
theorem k0_idx12_inb : ∀ (v5 : IVec S16 32) (v7 : IVec S16 32) (v9 : IVec S16 32) (v11 : IVec S16 32) (v105 : IVec S16 32) (k0_hw6 : k0_chk6 v5 v7 v9 v11 v105), ∀ a x, ((![v105, v11] : Fin 2 → IVec S16 32) a x).toNat < S512x64.size a := fun v5 v7 v9 v11 v105 k0_hw6 => k0_hw6.2.2.2

def k0_chk7 (v5 : IVec S16 32) (v7 : IVec S16 32) (v9 : IVec S16 32) (v11 : IVec S16 32) (v106 : IVec S16 32) : Prop :=
  (∀ a x, ((![v106, v5] : Fin 2 → IVec S16 32) a x).toNat < S512x64.size a) ∧
  (∀ a x, ((![v106, v7] : Fin 2 → IVec S16 32) a x).toNat < S512x64.size a) ∧
  (∀ a x, ((![v106, v9] : Fin 2 → IVec S16 32) a x).toNat < S512x64.size a) ∧
  (∀ a x, ((![v106, v11] : Fin 2 → IVec S16 32) a x).toNat < S512x64.size a)
theorem k0_idx7_inb : ∀ (v5 : IVec S16 32) (v7 : IVec S16 32) (v9 : IVec S16 32) (v11 : IVec S16 32) (v106 : IVec S16 32) (k0_hw7 : k0_chk7 v5 v7 v9 v11 v106), ∀ a x, ((![v106, v5] : Fin 2 → IVec S16 32) a x).toNat < S512x64.size a := fun v5 v7 v9 v11 v106 k0_hw7 => k0_hw7.1
theorem k0_idx9_inb : ∀ (v5 : IVec S16 32) (v7 : IVec S16 32) (v9 : IVec S16 32) (v11 : IVec S16 32) (v106 : IVec S16 32) (k0_hw7 : k0_chk7 v5 v7 v9 v11 v106), ∀ a x, ((![v106, v7] : Fin 2 → IVec S16 32) a x).toNat < S512x64.size a := fun v5 v7 v9 v11 v106 k0_hw7 => k0_hw7.2.1
theorem k0_idx11_inb : ∀ (v5 : IVec S16 32) (v7 : IVec S16 32) (v9 : IVec S16 32) (v11 : IVec S16 32) (v106 : IVec S16 32) (k0_hw7 : k0_chk7 v5 v7 v9 v11 v106), ∀ a x, ((![v106, v9] : Fin 2 → IVec S16 32) a x).toNat < S512x64.size a := fun v5 v7 v9 v11 v106 k0_hw7 => k0_hw7.2.2.1
theorem k0_idx13_inb : ∀ (v5 : IVec S16 32) (v7 : IVec S16 32) (v9 : IVec S16 32) (v11 : IVec S16 32) (v106 : IVec S16 32) (k0_hw7 : k0_chk7 v5 v7 v9 v11 v106), ∀ a x, ((![v106, v11] : Fin 2 → IVec S16 32) a x).toNat < S512x64.size a := fun v5 v7 v9 v11 v106 k0_hw7 => k0_hw7.2.2.2
@[reducible] def k0_t4_loop (v29 : BitVec 32) : Scf.Loop 32 :=
  let c0_i32_20 : BitVec 32 := 0#32
  let v41 : BitVec 32 := Scalar.subi v29 c0_i32_20
  let c1_i32_21 : BitVec 32 := 1#32
  let v43 : BitVec 32 := Scalar.divsi v41 c1_i32_21
  let v44 : BitVec 32 := Scalar.muli v43 c1_i32_21
  let v45 : BitVec 32 := Scalar.addi c0_i32_20 v44
  let v42 : BitVec 32 := Scalar.addi c0_i32_20 v41
  let c1_i32_23 : BitVec 32 := 1#32
  ⟨v45, v42, c1_i32_23⟩

def k0_chk4 (v29 : BitVec 32) : Prop :=
  ((k0_t3_loop v29).OK) ∧
  ((k0_t4_loop v29).OK)
theorem k0_t3_ok : ∀ (v29 : BitVec 32) (k0_hw4 : k0_chk4 v29), (k0_t3_loop v29).OK := fun v29 k0_hw4 => k0_hw4.1
theorem k0_t4_ok : ∀ (v29 : BitVec 32) (k0_hw4 : k0_chk4 v29), (k0_t4_loop v29).OK := fun v29 k0_hw4 => k0_hw4.2

def k0_chk8 (v18 : IVec S16 32) (v20 : IVec S16 32) (v104 : IVec S16 32) : Prop :=
  (∀ a x, ((![v18, v104] : Fin 2 → IVec S16 32) a x).toNat < S512x16.size a) ∧
  (∀ a x, ((![v20, v104] : Fin 2 → IVec S16 32) a x).toNat < S512x16.size a)
theorem k0_idx14_inb : ∀ (v18 : IVec S16 32) (v20 : IVec S16 32) (v104 : IVec S16 32) (k0_hw8 : k0_chk8 v18 v20 v104), ∀ a x, ((![v18, v104] : Fin 2 → IVec S16 32) a x).toNat < S512x16.size a := fun v18 v20 v104 k0_hw8 => k0_hw8.1
theorem k0_idx15_inb : ∀ (v18 : IVec S16 32) (v20 : IVec S16 32) (v104 : IVec S16 32) (k0_hw8 : k0_chk8 v18 v20 v104), ∀ a x, ((![v20, v104] : Fin 2 → IVec S16 32) a x).toNat < S512x16.size a := fun v18 v20 v104 k0_hw8 => k0_hw8.2

def k0_chk9 (v5 : IVec S16 32) (v7 : IVec S16 32) (v9 : IVec S16 32) (v11 : IVec S16 32) (v105 : IVec S16 32) : Prop :=
  (∀ a x, ((![v105, v5] : Fin 2 → IVec S16 32) a x).toNat < S512x64.size a) ∧
  (∀ a x, ((![v105, v7] : Fin 2 → IVec S16 32) a x).toNat < S512x64.size a) ∧
  (∀ a x, ((![v105, v9] : Fin 2 → IVec S16 32) a x).toNat < S512x64.size a) ∧
  (∀ a x, ((![v105, v11] : Fin 2 → IVec S16 32) a x).toNat < S512x64.size a)
theorem k0_idx16_inb : ∀ (v5 : IVec S16 32) (v7 : IVec S16 32) (v9 : IVec S16 32) (v11 : IVec S16 32) (v105 : IVec S16 32) (k0_hw9 : k0_chk9 v5 v7 v9 v11 v105), ∀ a x, ((![v105, v5] : Fin 2 → IVec S16 32) a x).toNat < S512x64.size a := fun v5 v7 v9 v11 v105 k0_hw9 => k0_hw9.1
theorem k0_idx18_inb : ∀ (v5 : IVec S16 32) (v7 : IVec S16 32) (v9 : IVec S16 32) (v11 : IVec S16 32) (v105 : IVec S16 32) (k0_hw9 : k0_chk9 v5 v7 v9 v11 v105), ∀ a x, ((![v105, v7] : Fin 2 → IVec S16 32) a x).toNat < S512x64.size a := fun v5 v7 v9 v11 v105 k0_hw9 => k0_hw9.2.1
theorem k0_idx20_inb : ∀ (v5 : IVec S16 32) (v7 : IVec S16 32) (v9 : IVec S16 32) (v11 : IVec S16 32) (v105 : IVec S16 32) (k0_hw9 : k0_chk9 v5 v7 v9 v11 v105), ∀ a x, ((![v105, v9] : Fin 2 → IVec S16 32) a x).toNat < S512x64.size a := fun v5 v7 v9 v11 v105 k0_hw9 => k0_hw9.2.2.1
theorem k0_idx22_inb : ∀ (v5 : IVec S16 32) (v7 : IVec S16 32) (v9 : IVec S16 32) (v11 : IVec S16 32) (v105 : IVec S16 32) (k0_hw9 : k0_chk9 v5 v7 v9 v11 v105), ∀ a x, ((![v105, v11] : Fin 2 → IVec S16 32) a x).toNat < S512x64.size a := fun v5 v7 v9 v11 v105 k0_hw9 => k0_hw9.2.2.2

def k0_chk10 (v5 : IVec S16 32) (v7 : IVec S16 32) (v9 : IVec S16 32) (v11 : IVec S16 32) (v106 : IVec S16 32) : Prop :=
  (∀ a x, ((![v106, v5] : Fin 2 → IVec S16 32) a x).toNat < S512x64.size a) ∧
  (∀ a x, ((![v106, v7] : Fin 2 → IVec S16 32) a x).toNat < S512x64.size a) ∧
  (∀ a x, ((![v106, v9] : Fin 2 → IVec S16 32) a x).toNat < S512x64.size a) ∧
  (∀ a x, ((![v106, v11] : Fin 2 → IVec S16 32) a x).toNat < S512x64.size a)
theorem k0_idx17_inb : ∀ (v5 : IVec S16 32) (v7 : IVec S16 32) (v9 : IVec S16 32) (v11 : IVec S16 32) (v106 : IVec S16 32) (k0_hw10 : k0_chk10 v5 v7 v9 v11 v106), ∀ a x, ((![v106, v5] : Fin 2 → IVec S16 32) a x).toNat < S512x64.size a := fun v5 v7 v9 v11 v106 k0_hw10 => k0_hw10.1
theorem k0_idx19_inb : ∀ (v5 : IVec S16 32) (v7 : IVec S16 32) (v9 : IVec S16 32) (v11 : IVec S16 32) (v106 : IVec S16 32) (k0_hw10 : k0_chk10 v5 v7 v9 v11 v106), ∀ a x, ((![v106, v7] : Fin 2 → IVec S16 32) a x).toNat < S512x64.size a := fun v5 v7 v9 v11 v106 k0_hw10 => k0_hw10.2.1
theorem k0_idx21_inb : ∀ (v5 : IVec S16 32) (v7 : IVec S16 32) (v9 : IVec S16 32) (v11 : IVec S16 32) (v106 : IVec S16 32) (k0_hw10 : k0_chk10 v5 v7 v9 v11 v106), ∀ a x, ((![v106, v9] : Fin 2 → IVec S16 32) a x).toNat < S512x64.size a := fun v5 v7 v9 v11 v106 k0_hw10 => k0_hw10.2.2.1
theorem k0_idx23_inb : ∀ (v5 : IVec S16 32) (v7 : IVec S16 32) (v9 : IVec S16 32) (v11 : IVec S16 32) (v106 : IVec S16 32) (k0_hw10 : k0_chk10 v5 v7 v9 v11 v106), ∀ a x, ((![v106, v11] : Fin 2 → IVec S16 32) a x).toNat < S512x64.size a := fun v5 v7 v9 v11 v106 k0_hw10 => k0_hw10.2.2.2
def k0_off4 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let v49 : Index := Scalar.indexCast arg10
  let c0 : Index := 0#32
  ![v49.toNat, 0]
def k0_off5 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let c128_i32_24 : BitVec 32 := 128#32
  let v52 : BitVec 32 := Scalar.addi arg10 c128_i32_24
  let v53 : Index := Scalar.indexCast v52
  let c0_25 : Index := 0#32
  ![v53.toNat, 0]
def k0_off6 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let v56 : Index := Scalar.indexCast arg10
  let c16 : Index := 16#32
  ![v56.toNat, 16]
def k0_off7 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let c128_i32_26 : BitVec 32 := 128#32
  let v59 : BitVec 32 := Scalar.addi arg10 c128_i32_26
  let v60 : Index := Scalar.indexCast v59
  let c16_27 : Index := 16#32
  ![v60.toNat, 16]
def k0_off8 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let v63 : Index := Scalar.indexCast arg10
  let c32 : Index := 32#32
  ![v63.toNat, 32]
def k0_off9 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let c128_i32_28 : BitVec 32 := 128#32
  let v66 : BitVec 32 := Scalar.addi arg10 c128_i32_28
  let v67 : Index := Scalar.indexCast v66
  let c32_29 : Index := 32#32
  ![v67.toNat, 32]
def k0_off10 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let v70 : Index := Scalar.indexCast arg10
  let c48 : Index := 48#32
  ![v70.toNat, 48]
def k0_off11 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let c128_i32_30 : BitVec 32 := 128#32
  let v73 : BitVec 32 := Scalar.addi arg10 c128_i32_30
  let v74 : Index := Scalar.indexCast v73
  let c48_31 : Index := 48#32
  ![v74.toNat, 48]
def k0_off12 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let v77 : Index := Scalar.indexCast arg10
  let c64 : Index := 64#32
  ![v77.toNat, 64]
def k0_off13 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let c128_i32_32 : BitVec 32 := 128#32
  let v80 : BitVec 32 := Scalar.addi arg10 c128_i32_32
  let v81 : Index := Scalar.indexCast v80
  let c64_33 : Index := 64#32
  ![v81.toNat, 64]
def k0_off14 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let v84 : Index := Scalar.indexCast arg10
  let c80 : Index := 80#32
  ![v84.toNat, 80]
def k0_off15 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let c128_i32_34 : BitVec 32 := 128#32
  let v87 : BitVec 32 := Scalar.addi arg10 c128_i32_34
  let v88 : Index := Scalar.indexCast v87
  let c80_35 : Index := 80#32
  ![v88.toNat, 80]
def k0_off16 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let v91 : Index := Scalar.indexCast arg10
  let c96 : Index := 96#32
  ![v91.toNat, 96]
def k0_off17 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let c128_i32_36 : BitVec 32 := 128#32
  let v94 : BitVec 32 := Scalar.addi arg10 c128_i32_36
  let v95 : Index := Scalar.indexCast v94
  let c96_37 : Index := 96#32
  ![v95.toNat, 96]
def k0_off18 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let v98 : Index := Scalar.indexCast arg10
  let c112 : Index := 112#32
  ![v98.toNat, 112]
def k0_off19 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let c128_i32_38 : BitVec 32 := 128#32
  let v101 : BitVec 32 := Scalar.addi arg10 c128_i32_38
  let v102 : Index := Scalar.indexCast v101
  let c112_39 : Index := 112#32
  ![v102.toNat, 112]
def k0_off20 (i : grid0.Coords) (c0_i32_8 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v14 : BitVec 32 := Scalar.addi v2 c0_i32_8
  let c0_i32_14_r3 : BitVec 32 := 0#32
  ![v14.toNat, 0]
@[reducible] def k0_t5_loop : Scf.Loop 32 :=
  let c0_i32_10 : BitVec 32 := 0#32
  let c128_i32_11 : BitVec 32 := 128#32
  let v15 : BitVec 32 := Scalar.addi c0_i32_10 c128_i32_11
  let c1_i32_12 : BitVec 32 := 1#32
  ⟨c0_i32_10, v15, c1_i32_12⟩

def k0_chk11 (v18 : IVec S16 32) : Prop :=
  (∀ a x, ((![v18] : Fin 1 → IVec S16 32) a x).toNat < S512.size a)
theorem k0_idx24_inb : ∀ (v18 : IVec S16 32) (k0_hw11 : k0_chk11 v18), ∀ a x, ((![v18] : Fin 1 → IVec S16 32) a x).toNat < S512.size a := fun v18 k0_hw11 => k0_hw11

def k0_chk12 (v20 : IVec S16 32) : Prop :=
  (∀ a x, ((![v20] : Fin 1 → IVec S16 32) a x).toNat < S512.size a)
theorem k0_idx25_inb : ∀ (v20 : IVec S16 32) (k0_hw12 : k0_chk12 v20), ∀ a x, ((![v20] : Fin 1 → IVec S16 32) a x).toNat < S512.size a := fun v20 k0_hw12 => k0_hw12
@[reducible] def k0_t6_loop (v29 : BitVec 32) : Scf.Loop 32 :=
  let c0_i32_20 : BitVec 32 := 0#32
  let v41 : BitVec 32 := Scalar.subi v29 c0_i32_20
  let c1_i32_21 : BitVec 32 := 1#32
  let v43 : BitVec 32 := Scalar.divsi v41 c1_i32_21
  let v44 : BitVec 32 := Scalar.muli v43 c1_i32_21
  let v45 : BitVec 32 := Scalar.addi c0_i32_20 v44
  let c1_i32_22 : BitVec 32 := 1#32
  ⟨c0_i32_20, v45, c1_i32_22⟩

def k0_chk14 (v18 : IVec S16 32) (v20 : IVec S16 32) (v104 : IVec S16 32) : Prop :=
  (∀ a x, ((![v18, v104] : Fin 2 → IVec S16 32) a x).toNat < S512x16.size a) ∧
  (∀ a x, ((![v20, v104] : Fin 2 → IVec S16 32) a x).toNat < S512x16.size a)
theorem k0_idx26_inb : ∀ (v18 : IVec S16 32) (v20 : IVec S16 32) (v104 : IVec S16 32) (k0_hw14 : k0_chk14 v18 v20 v104), ∀ a x, ((![v18, v104] : Fin 2 → IVec S16 32) a x).toNat < S512x16.size a := fun v18 v20 v104 k0_hw14 => k0_hw14.1
theorem k0_idx27_inb : ∀ (v18 : IVec S16 32) (v20 : IVec S16 32) (v104 : IVec S16 32) (k0_hw14 : k0_chk14 v18 v20 v104), ∀ a x, ((![v20, v104] : Fin 2 → IVec S16 32) a x).toNat < S512x16.size a := fun v18 v20 v104 k0_hw14 => k0_hw14.2

def k0_chk15 (v5 : IVec S16 32) (v7 : IVec S16 32) (v9 : IVec S16 32) (v11 : IVec S16 32) (v105 : IVec S16 32) : Prop :=
  (∀ a x, ((![v105, v5] : Fin 2 → IVec S16 32) a x).toNat < S512x64.size a) ∧
  (∀ a x, ((![v105, v7] : Fin 2 → IVec S16 32) a x).toNat < S512x64.size a) ∧
  (∀ a x, ((![v105, v9] : Fin 2 → IVec S16 32) a x).toNat < S512x64.size a) ∧
  (∀ a x, ((![v105, v11] : Fin 2 → IVec S16 32) a x).toNat < S512x64.size a)
theorem k0_idx28_inb : ∀ (v5 : IVec S16 32) (v7 : IVec S16 32) (v9 : IVec S16 32) (v11 : IVec S16 32) (v105 : IVec S16 32) (k0_hw15 : k0_chk15 v5 v7 v9 v11 v105), ∀ a x, ((![v105, v5] : Fin 2 → IVec S16 32) a x).toNat < S512x64.size a := fun v5 v7 v9 v11 v105 k0_hw15 => k0_hw15.1
theorem k0_idx30_inb : ∀ (v5 : IVec S16 32) (v7 : IVec S16 32) (v9 : IVec S16 32) (v11 : IVec S16 32) (v105 : IVec S16 32) (k0_hw15 : k0_chk15 v5 v7 v9 v11 v105), ∀ a x, ((![v105, v7] : Fin 2 → IVec S16 32) a x).toNat < S512x64.size a := fun v5 v7 v9 v11 v105 k0_hw15 => k0_hw15.2.1
theorem k0_idx32_inb : ∀ (v5 : IVec S16 32) (v7 : IVec S16 32) (v9 : IVec S16 32) (v11 : IVec S16 32) (v105 : IVec S16 32) (k0_hw15 : k0_chk15 v5 v7 v9 v11 v105), ∀ a x, ((![v105, v9] : Fin 2 → IVec S16 32) a x).toNat < S512x64.size a := fun v5 v7 v9 v11 v105 k0_hw15 => k0_hw15.2.2.1
theorem k0_idx34_inb : ∀ (v5 : IVec S16 32) (v7 : IVec S16 32) (v9 : IVec S16 32) (v11 : IVec S16 32) (v105 : IVec S16 32) (k0_hw15 : k0_chk15 v5 v7 v9 v11 v105), ∀ a x, ((![v105, v11] : Fin 2 → IVec S16 32) a x).toNat < S512x64.size a := fun v5 v7 v9 v11 v105 k0_hw15 => k0_hw15.2.2.2

def k0_chk16 (v5 : IVec S16 32) (v7 : IVec S16 32) (v9 : IVec S16 32) (v11 : IVec S16 32) (v106 : IVec S16 32) : Prop :=
  (∀ a x, ((![v106, v5] : Fin 2 → IVec S16 32) a x).toNat < S512x64.size a) ∧
  (∀ a x, ((![v106, v7] : Fin 2 → IVec S16 32) a x).toNat < S512x64.size a) ∧
  (∀ a x, ((![v106, v9] : Fin 2 → IVec S16 32) a x).toNat < S512x64.size a) ∧
  (∀ a x, ((![v106, v11] : Fin 2 → IVec S16 32) a x).toNat < S512x64.size a)
theorem k0_idx29_inb : ∀ (v5 : IVec S16 32) (v7 : IVec S16 32) (v9 : IVec S16 32) (v11 : IVec S16 32) (v106 : IVec S16 32) (k0_hw16 : k0_chk16 v5 v7 v9 v11 v106), ∀ a x, ((![v106, v5] : Fin 2 → IVec S16 32) a x).toNat < S512x64.size a := fun v5 v7 v9 v11 v106 k0_hw16 => k0_hw16.1
theorem k0_idx31_inb : ∀ (v5 : IVec S16 32) (v7 : IVec S16 32) (v9 : IVec S16 32) (v11 : IVec S16 32) (v106 : IVec S16 32) (k0_hw16 : k0_chk16 v5 v7 v9 v11 v106), ∀ a x, ((![v106, v7] : Fin 2 → IVec S16 32) a x).toNat < S512x64.size a := fun v5 v7 v9 v11 v106 k0_hw16 => k0_hw16.2.1
theorem k0_idx33_inb : ∀ (v5 : IVec S16 32) (v7 : IVec S16 32) (v9 : IVec S16 32) (v11 : IVec S16 32) (v106 : IVec S16 32) (k0_hw16 : k0_chk16 v5 v7 v9 v11 v106), ∀ a x, ((![v106, v9] : Fin 2 → IVec S16 32) a x).toNat < S512x64.size a := fun v5 v7 v9 v11 v106 k0_hw16 => k0_hw16.2.2.1
theorem k0_idx35_inb : ∀ (v5 : IVec S16 32) (v7 : IVec S16 32) (v9 : IVec S16 32) (v11 : IVec S16 32) (v106 : IVec S16 32) (k0_hw16 : k0_chk16 v5 v7 v9 v11 v106), ∀ a x, ((![v106, v11] : Fin 2 → IVec S16 32) a x).toNat < S512x64.size a := fun v5 v7 v9 v11 v106 k0_hw16 => k0_hw16.2.2.2
@[reducible] def k0_t7_loop (v29 : BitVec 32) : Scf.Loop 32 :=
  let c0_i32_20 : BitVec 32 := 0#32
  let v41 : BitVec 32 := Scalar.subi v29 c0_i32_20
  let c1_i32_21 : BitVec 32 := 1#32
  let v43 : BitVec 32 := Scalar.divsi v41 c1_i32_21
  let v44 : BitVec 32 := Scalar.muli v43 c1_i32_21
  let v45 : BitVec 32 := Scalar.addi c0_i32_20 v44
  let v42 : BitVec 32 := Scalar.addi c0_i32_20 v41
  let c1_i32_23 : BitVec 32 := 1#32
  ⟨v45, v42, c1_i32_23⟩

def k0_chk13 (v29 : BitVec 32) : Prop :=
  ((k0_t6_loop v29).OK) ∧
  ((k0_t7_loop v29).OK)
theorem k0_t6_ok : ∀ (v29 : BitVec 32) (k0_hw13 : k0_chk13 v29), (k0_t6_loop v29).OK := fun v29 k0_hw13 => k0_hw13.1
theorem k0_t7_ok : ∀ (v29 : BitVec 32) (k0_hw13 : k0_chk13 v29), (k0_t7_loop v29).OK := fun v29 k0_hw13 => k0_hw13.2

def k0_chk17 (v18 : IVec S16 32) (v20 : IVec S16 32) (v104 : IVec S16 32) : Prop :=
  (∀ a x, ((![v18, v104] : Fin 2 → IVec S16 32) a x).toNat < S512x16.size a) ∧
  (∀ a x, ((![v20, v104] : Fin 2 → IVec S16 32) a x).toNat < S512x16.size a)
theorem k0_idx36_inb : ∀ (v18 : IVec S16 32) (v20 : IVec S16 32) (v104 : IVec S16 32) (k0_hw17 : k0_chk17 v18 v20 v104), ∀ a x, ((![v18, v104] : Fin 2 → IVec S16 32) a x).toNat < S512x16.size a := fun v18 v20 v104 k0_hw17 => k0_hw17.1
theorem k0_idx37_inb : ∀ (v18 : IVec S16 32) (v20 : IVec S16 32) (v104 : IVec S16 32) (k0_hw17 : k0_chk17 v18 v20 v104), ∀ a x, ((![v20, v104] : Fin 2 → IVec S16 32) a x).toNat < S512x16.size a := fun v18 v20 v104 k0_hw17 => k0_hw17.2

def k0_chk18 (v5 : IVec S16 32) (v7 : IVec S16 32) (v9 : IVec S16 32) (v11 : IVec S16 32) (v105 : IVec S16 32) : Prop :=
  (∀ a x, ((![v105, v5] : Fin 2 → IVec S16 32) a x).toNat < S512x64.size a) ∧
  (∀ a x, ((![v105, v7] : Fin 2 → IVec S16 32) a x).toNat < S512x64.size a) ∧
  (∀ a x, ((![v105, v9] : Fin 2 → IVec S16 32) a x).toNat < S512x64.size a) ∧
  (∀ a x, ((![v105, v11] : Fin 2 → IVec S16 32) a x).toNat < S512x64.size a)
theorem k0_idx38_inb : ∀ (v5 : IVec S16 32) (v7 : IVec S16 32) (v9 : IVec S16 32) (v11 : IVec S16 32) (v105 : IVec S16 32) (k0_hw18 : k0_chk18 v5 v7 v9 v11 v105), ∀ a x, ((![v105, v5] : Fin 2 → IVec S16 32) a x).toNat < S512x64.size a := fun v5 v7 v9 v11 v105 k0_hw18 => k0_hw18.1
theorem k0_idx40_inb : ∀ (v5 : IVec S16 32) (v7 : IVec S16 32) (v9 : IVec S16 32) (v11 : IVec S16 32) (v105 : IVec S16 32) (k0_hw18 : k0_chk18 v5 v7 v9 v11 v105), ∀ a x, ((![v105, v7] : Fin 2 → IVec S16 32) a x).toNat < S512x64.size a := fun v5 v7 v9 v11 v105 k0_hw18 => k0_hw18.2.1
theorem k0_idx42_inb : ∀ (v5 : IVec S16 32) (v7 : IVec S16 32) (v9 : IVec S16 32) (v11 : IVec S16 32) (v105 : IVec S16 32) (k0_hw18 : k0_chk18 v5 v7 v9 v11 v105), ∀ a x, ((![v105, v9] : Fin 2 → IVec S16 32) a x).toNat < S512x64.size a := fun v5 v7 v9 v11 v105 k0_hw18 => k0_hw18.2.2.1
theorem k0_idx44_inb : ∀ (v5 : IVec S16 32) (v7 : IVec S16 32) (v9 : IVec S16 32) (v11 : IVec S16 32) (v105 : IVec S16 32) (k0_hw18 : k0_chk18 v5 v7 v9 v11 v105), ∀ a x, ((![v105, v11] : Fin 2 → IVec S16 32) a x).toNat < S512x64.size a := fun v5 v7 v9 v11 v105 k0_hw18 => k0_hw18.2.2.2

def k0_chk19 (v5 : IVec S16 32) (v7 : IVec S16 32) (v9 : IVec S16 32) (v11 : IVec S16 32) (v106 : IVec S16 32) : Prop :=
  (∀ a x, ((![v106, v5] : Fin 2 → IVec S16 32) a x).toNat < S512x64.size a) ∧
  (∀ a x, ((![v106, v7] : Fin 2 → IVec S16 32) a x).toNat < S512x64.size a) ∧
  (∀ a x, ((![v106, v9] : Fin 2 → IVec S16 32) a x).toNat < S512x64.size a) ∧
  (∀ a x, ((![v106, v11] : Fin 2 → IVec S16 32) a x).toNat < S512x64.size a)
theorem k0_idx39_inb : ∀ (v5 : IVec S16 32) (v7 : IVec S16 32) (v9 : IVec S16 32) (v11 : IVec S16 32) (v106 : IVec S16 32) (k0_hw19 : k0_chk19 v5 v7 v9 v11 v106), ∀ a x, ((![v106, v5] : Fin 2 → IVec S16 32) a x).toNat < S512x64.size a := fun v5 v7 v9 v11 v106 k0_hw19 => k0_hw19.1
theorem k0_idx41_inb : ∀ (v5 : IVec S16 32) (v7 : IVec S16 32) (v9 : IVec S16 32) (v11 : IVec S16 32) (v106 : IVec S16 32) (k0_hw19 : k0_chk19 v5 v7 v9 v11 v106), ∀ a x, ((![v106, v7] : Fin 2 → IVec S16 32) a x).toNat < S512x64.size a := fun v5 v7 v9 v11 v106 k0_hw19 => k0_hw19.2.1
theorem k0_idx43_inb : ∀ (v5 : IVec S16 32) (v7 : IVec S16 32) (v9 : IVec S16 32) (v11 : IVec S16 32) (v106 : IVec S16 32) (k0_hw19 : k0_chk19 v5 v7 v9 v11 v106), ∀ a x, ((![v106, v9] : Fin 2 → IVec S16 32) a x).toNat < S512x64.size a := fun v5 v7 v9 v11 v106 k0_hw19 => k0_hw19.2.2.1
theorem k0_idx45_inb : ∀ (v5 : IVec S16 32) (v7 : IVec S16 32) (v9 : IVec S16 32) (v11 : IVec S16 32) (v106 : IVec S16 32) (k0_hw19 : k0_chk19 v5 v7 v9 v11 v106), ∀ a x, ((![v106, v11] : Fin 2 → IVec S16 32) a x).toNat < S512x64.size a := fun v5 v7 v9 v11 v106 k0_hw19 => k0_hw19.2.2.2
def k0_off21 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let v49 : Index := Scalar.indexCast arg10
  let c0 : Index := 0#32
  ![v49.toNat, 0]
def k0_off22 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let c128_i32_24 : BitVec 32 := 128#32
  let v52 : BitVec 32 := Scalar.addi arg10 c128_i32_24
  let v53 : Index := Scalar.indexCast v52
  let c0_25 : Index := 0#32
  ![v53.toNat, 0]
def k0_off23 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let v56 : Index := Scalar.indexCast arg10
  let c16 : Index := 16#32
  ![v56.toNat, 16]
def k0_off24 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let c128_i32_26 : BitVec 32 := 128#32
  let v59 : BitVec 32 := Scalar.addi arg10 c128_i32_26
  let v60 : Index := Scalar.indexCast v59
  let c16_27 : Index := 16#32
  ![v60.toNat, 16]
def k0_off25 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let v63 : Index := Scalar.indexCast arg10
  let c32 : Index := 32#32
  ![v63.toNat, 32]
def k0_off26 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let c128_i32_28 : BitVec 32 := 128#32
  let v66 : BitVec 32 := Scalar.addi arg10 c128_i32_28
  let v67 : Index := Scalar.indexCast v66
  let c32_29 : Index := 32#32
  ![v67.toNat, 32]
def k0_off27 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let v70 : Index := Scalar.indexCast arg10
  let c48 : Index := 48#32
  ![v70.toNat, 48]
def k0_off28 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let c128_i32_30 : BitVec 32 := 128#32
  let v73 : BitVec 32 := Scalar.addi arg10 c128_i32_30
  let v74 : Index := Scalar.indexCast v73
  let c48_31 : Index := 48#32
  ![v74.toNat, 48]
def k0_off29 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let v77 : Index := Scalar.indexCast arg10
  let c64 : Index := 64#32
  ![v77.toNat, 64]
def k0_off30 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let c128_i32_32 : BitVec 32 := 128#32
  let v80 : BitVec 32 := Scalar.addi arg10 c128_i32_32
  let v81 : Index := Scalar.indexCast v80
  let c64_33 : Index := 64#32
  ![v81.toNat, 64]
def k0_off31 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let v84 : Index := Scalar.indexCast arg10
  let c80 : Index := 80#32
  ![v84.toNat, 80]
def k0_off32 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let c128_i32_34 : BitVec 32 := 128#32
  let v87 : BitVec 32 := Scalar.addi arg10 c128_i32_34
  let v88 : Index := Scalar.indexCast v87
  let c80_35 : Index := 80#32
  ![v88.toNat, 80]
def k0_off33 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let v91 : Index := Scalar.indexCast arg10
  let c96 : Index := 96#32
  ![v91.toNat, 96]
def k0_off34 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let c128_i32_36 : BitVec 32 := 128#32
  let v94 : BitVec 32 := Scalar.addi arg10 c128_i32_36
  let v95 : Index := Scalar.indexCast v94
  let c96_37 : Index := 96#32
  ![v95.toNat, 96]
def k0_off35 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let v98 : Index := Scalar.indexCast arg10
  let c112 : Index := 112#32
  ![v98.toNat, 112]
def k0_off36 (k0_t5 : Fin k0_t5_loop.trips) : Fin 2 → Nat :=
  let c0_i32_10 : BitVec 32 := 0#32
  let c1_i32_12 : BitVec 32 := 1#32
  let arg10 : BitVec 32 := Scf.iv c0_i32_10 c1_i32_12 k0_t5
  let c128_i32_38 : BitVec 32 := 128#32
  let v101 : BitVec 32 := Scalar.addi arg10 c128_i32_38
  let v102 : Index := Scalar.indexCast v101
  let c112_39 : Index := 112#32
  ![v102.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x1024x16 : Shape := ⟨3, ![16, 1024, 16]⟩
abbrev S16x1024 : Shape := ⟨2, ![16, 1024]⟩
abbrev S512x64 : Shape := ⟨2, ![512, 64]⟩
abbrev S512x64x2 : Shape := ⟨3, ![512, 64, 2]⟩
abbrev S512x64x1 : Shape := ⟨3, ![512, 64, 1]⟩
abbrev S512x128 : Shape := ⟨2, ![512, 128]⟩
abbrev S16384x16 : Shape := ⟨2, ![16384, 16]⟩
abbrev S16384 : Shape := ⟨1, ![16384]⟩
abbrev S_ : Shape := ⟨0, ![]⟩
abbrev S16384x1 : Shape := ⟨2, ![16384, 1]⟩
abbrev S16384x16x1 : Shape := ⟨3, ![16384, 16, 1]⟩
abbrev S1 : Shape := ⟨1, ![1]⟩
abbrev S1x1x1 : Shape := ⟨3, ![1, 1, 1]⟩
abbrev S16384x16x128 : Shape := ⟨3, ![16384, 16, 128]⟩
abbrev S16 : Shape := ⟨1, ![16]⟩
abbrev S1x16 : Shape := ⟨2, ![1, 16]⟩
abbrev S16384x128 : Shape := ⟨2, ![16384, 128]⟩
abbrev S16x1024x128 : Shape := ⟨3, ![16, 1024, 128]⟩

abbrev nBuf : Space → Nat
  | .hbm => 95
  | .vmem => 0
  | .smem => 0
  | _ => 0

abbrev bufTy : (tb : Table) → Fin (tcTables nBuf tb) → BufTy
  | .hbm, ⟨0, _⟩ => ⟨S16x1024x16, .i32⟩
  | .hbm, ⟨1, _⟩ => ⟨S16x1024, .i32⟩
  | .hbm, ⟨2, _⟩ => ⟨S512x64, .i32⟩
  | .hbm, ⟨3, _⟩ => ⟨S512x64x2, .bf16⟩
  | .hbm, ⟨4, _⟩ => ⟨S512x64x1, .bf16⟩
  | .hbm, ⟨5, _⟩ => ⟨S512x64, .bf16⟩
  | .hbm, ⟨6, _⟩ => ⟨S512x64x1, .bf16⟩
  | .hbm, ⟨7, _⟩ => ⟨S512x64, .bf16⟩
  | .hbm, ⟨8, _⟩ => ⟨S512x128, .bf16⟩
  | .hbm, ⟨9, _⟩ => ⟨S512x128, .f32⟩
  | .hbm, ⟨10, _⟩ => ⟨S16384x16, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x16, .i32⟩
  | .hbm, ⟨34, _⟩ => ⟨S_, .i32⟩
  | .hbm, ⟨35, _⟩ => ⟨S16384x16, .i32⟩
  | .hbm, ⟨36, _⟩ => ⟨S16384x16, .i1⟩
  | .hbm, ⟨37, _⟩ => ⟨S_, .i32⟩
  | .hbm, ⟨38, _⟩ => ⟨S16384x16, .i32⟩
  | .hbm, ⟨39, _⟩ => ⟨S16384x16, .i32⟩
  | .hbm, ⟨40, _⟩ => ⟨S16384x16, .i32⟩
  | .hbm, ⟨41, _⟩ => ⟨S16384x16x1, .i32⟩
  | .hbm, ⟨42, _⟩ => ⟨S1, .i32⟩
  | .hbm, ⟨43, _⟩ => ⟨S_, .i32⟩
  | .hbm, ⟨44, _⟩ => ⟨S16384x16x1, .i32⟩
  | .hbm, ⟨45, _⟩ => ⟨S16384x16x1, .i1⟩
  | .hbm, ⟨46, _⟩ => ⟨S1x1x1, .i32⟩
  | .hbm, ⟨47, _⟩ => ⟨S16384x16x1, .i32⟩
  | .hbm, ⟨48, _⟩ => ⟨S16384x16x1, .i1⟩
  | .hbm, ⟨49, _⟩ => ⟨S16384x16x1, .i1⟩
  | .hbm, ⟨50, _⟩ => ⟨S_, .i1⟩
  | .hbm, ⟨51, _⟩ => ⟨S16384x16, .i1⟩
  | .hbm, ⟨52, _⟩ => ⟨S16384x16x128, .f32⟩
  | .hbm, ⟨53, _⟩ => ⟨S16384x16x128, .i1⟩
  | .hbm, ⟨54, _⟩ => ⟨S_, .f32⟩
  | .hbm, ⟨55, _⟩ => ⟨S16384x16x128, .f32⟩
  | .hbm, ⟨56, _⟩ => ⟨S16384x16x128, .f32⟩
  | .hbm, ⟨57, _⟩ => ⟨S16, .i32⟩
  | .hbm, ⟨58, _⟩ => ⟨S1x16, .i32⟩
  | .hbm, ⟨59, _⟩ => ⟨S16384x1, .i32⟩
  | .hbm, ⟨60, _⟩ => ⟨S16384x16, .i32⟩
  | .hbm, ⟨61, _⟩ => ⟨S16384x16, .i32⟩
  | .hbm, ⟨62, _⟩ => ⟨S16384x16, .i1⟩
  | .hbm, ⟨63, _⟩ => ⟨S16384x16, .f32⟩
  | .hbm, ⟨64, _⟩ => ⟨S16384x16x1, .f32⟩
  | .hbm, ⟨65, _⟩ => ⟨S16384x16x128, .f32⟩
  | .hbm, ⟨66, _⟩ => ⟨S16384x16x128, .f32⟩
  | .hbm, ⟨67, _⟩ => ⟨S_, .f32⟩
  | .hbm, ⟨68, _⟩ => ⟨S16384x128, .f32⟩
  | .hbm, ⟨69, _⟩ => ⟨S_, .i32⟩
  | .hbm, ⟨70, _⟩ => ⟨S16384, .i32⟩
  | .hbm, ⟨71, _⟩ => ⟨S16384, .i32⟩
  | .hbm, ⟨72, _⟩ => ⟨S16384, .f32⟩
  | .hbm, ⟨73, _⟩ => ⟨S16384x1, .f32⟩
  | .hbm, ⟨74, _⟩ => ⟨S16384x128, .f32⟩
  | .hbm, ⟨75, _⟩ => ⟨S16384x128, .f32⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S16384, .f32⟩
  | .hbm, ⟨80, _⟩ => ⟨S16384x1, .f32⟩
  | .hbm, ⟨81, _⟩ => ⟨S16384x128, .f32⟩
  | .hbm, ⟨82, _⟩ => ⟨S16384x128, .f32⟩
  | .hbm, ⟨83, _⟩ => ⟨S_, .f32⟩
  | .hbm, ⟨84, _⟩ => ⟨S16384x128, .f32⟩
  | .hbm, ⟨85, _⟩ => ⟨S_, .i32⟩
  | .hbm, ⟨86, _⟩ => ⟨S16384, .i32⟩
  | .hbm, ⟨87, _⟩ => ⟨S16384, .i1⟩
  | .hbm, ⟨88, _⟩ => ⟨S_, .i32⟩
  | .hbm, ⟨89, _⟩ => ⟨S16384, .i32⟩
  | .hbm, ⟨90, _⟩ => ⟨S16384, .i32⟩
  | .hbm, ⟨91, _⟩ => ⟨S16384, .i32⟩
  | .hbm, ⟨92, _⟩ => ⟨S16384x1, .i32⟩
  | .hbm, ⟨93, _⟩ => ⟨S16384x128, .f32⟩
  | .hbm, ⟨94, _⟩ => ⟨S16x1024x128, .f32⟩
  | _, _ => ⟨S16x1024x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1_0 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst : Ref sig .tc := ⟨.hbm, 67, rfl⟩
abbrev main_v36 : Ref sig .tc := ⟨.hbm, 68, rfl⟩
abbrev main_c_3 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_4 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_5 : Ref sig .tc := ⟨.hbm, 83, rfl⟩
abbrev main_v49 : Ref sig .tc := ⟨.hbm, 84, rfl⟩
abbrev main_c_6 : Ref sig .tc := ⟨.hbm, 85, rfl⟩
abbrev main_v50 : Ref sig .tc := ⟨.hbm, 86, rfl⟩
abbrev main_v51 : Ref sig .tc := ⟨.hbm, 87, rfl⟩
abbrev main_c_7 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩

abbrev nD : Nat := 1
abbrev τ : Topo := Topo.v7x

variable {F : FTy → Type} [FloatOps F]
-- ==== Proof.Base.lean ====
/-
  The launch of the pooling kernel as the proofs see it, and the values its body computes: what one table word
  contributes to a column, the running sums over a word's characters, and one element of the result.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.LoopRemainder
public import Idealize.ShloMosaic.Lib.Writes
public import Idealize.ShloMosaic.Lib.Pointwise.Index
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, and the counters of the transfers in flight. -/
abbrev UH : Type := URounds (GSem nD τ sig) ℕ
abbrev UU : Type := UH × Counters
abbrev MM (F : FTy → Type) : Type := MT nD τ sig (HIx 1) (Elt F) ℕ UU ℕ
abbrev EH : Emb UH (MM F) := embL

/-! ## The tile's buffers -/

abbrev ciV : Memref sig .scVector .hbm S16384x16 .i32 := Memref.whole main_v0_scv
abbrev lnV : Memref sig .scVector .hbm S16384 .i32 := Memref.whole main_v1_scv
abbrev pkV : Memref sig .scVector .hbm S512x64 .i32 := Memref.whole main_arg2_scv
abbrev ouV : Memref sig .scVector .hbm S16384x128 .f32 := Memref.whole main_v2_scv
abbrev tbV : Memref sig .scVector .vmem S512x64 .i32 := Memref.whole cc0_scratch0
abbrev chV : Memref sig .scVector .vmem S512x16 .i32 := Memref.whole cc0_scratch1
abbrev leV : Memref sig .scVector .vmem S512 .i32 := Memref.whole cc0_scratch2
abbrev obV : Memref sig .scVector .vmem S256x128 .f32 := Memref.whole cc0_scratch3

abbrev cV (L : grid0.Coords) : Fin τ.nSC := (L 0).castLE hcore0
abbrev jV (L : grid0.Coords) : Fin τ.nSub := (L 1).castLE hsub0
/-- The vector subcore at grid point `L` of device `d`. -/
abbrev thr (d : Dev nD) (L : grid0.Coords) : Thread nD τ := V d (cV L) (jV L)

/-! ## The values -/

/-- Word `j` of table row `i`. -/
def tabAt (Tb : IVec S512x64 32) (i j : ℕ) : BitVec 32 := Tb (ix2 (Fin.ofNat 512 i) (Fin.ofNat 64 j))
/-- Character `t` of the tile's word `r`. -/
def chrAt (C : IVec S512x16 32) (r t : ℕ) : BitVec 32 := C (ix2 (Fin.ofNat 512 r) (Fin.ofNat 16 t))
/-- The length of the tile's word `r`. -/
def lenAt (N : IVec S512 32) (r : ℕ) : BitVec 32 := N (ix1 (Fin.ofNat 512 r))

variable [FloatOps F]

/-- The value in the low half of a table word: the half moved up is the pattern of an f32. -/
def lo (w : BitVec 32) : F .f32 := FloatOps.ofBits .f32 (w <<< (16 : ℕ))
/-- The value in the high half of a table word: the low half cleared. -/
def hi (w : BitVec 32) : F .f32 := FloatOps.ofBits .f32 (IntOp.andi w 4294901760#32)

/-- The sum of `g` over the first `n` words `w 0 … w (n - 1)`, from the left, from zero. -/
def sumUpTo (g : BitVec 32 → F .f32) (w : ℕ → BitVec 32) : ℕ → F .f32
  | 0 => Scalar.ofBits .f32 0x00000000#32
  | n + 1 => FloatOps.addf (sumUpTo g w n) (g (w n))

/-- Lanes `c … c + 15` of the sums, over the first `n` characters of the tile's word `r`, of the low (`lo`) or high
    (`hi`) halves of the table rows its characters name. -/
def accV (g : BitVec 32 → F .f32) (Tb : IVec S512x64 32) (C : IVec S512x16 32) (r c n : ℕ) : FVec F S16 .f32 :=
  fun x => sumUpTo g (fun t => tabAt Tb (chrAt C r t).toNat (c + (x 0).val)) n

/-- The sixteen running vectors of a pair of words `r`, `s` after `n` characters: for each word the low halves' 64
    columns and then the high halves', sixteen lanes at a time. -/
def accs (Tb : IVec S512x64 32) (C : IVec S512x16 32) (r s n : ℕ) :=
  (accV (F := F) lo Tb C r 0 n, accV (F := F) lo Tb C r 16 n, accV (F := F) lo Tb C r 32 n, accV (F := F) lo Tb C r 48 n,
    accV (F := F) hi Tb C r 0 n, accV (F := F) hi Tb C r 16 n, accV (F := F) hi Tb C r 32 n, accV (F := F) hi Tb C r 48 n,
    accV (F := F) lo Tb C s 0 n, accV (F := F) lo Tb C s 16 n, accV (F := F) lo Tb C s 32 n, accV (F := F) lo Tb C s 48 n,
    accV (F := F) hi Tb C s 0 n, accV (F := F) hi Tb C s 16 n, accV (F := F) hi Tb C s 32 n, accV (F := F) hi Tb C s 48 n)

/-! ## Gathers -/

omit [FloatOps F] in
/-- A gather from the table at row vector `a` and column vector `b`. -/
theorem loadIdx_tab (Tb : Vec F S512x64 .i32) (a b : IVec S16 32)
    (h : ∀ k x, ((![a, b] : Fin 2 → IVec S16 32) k x).toNat < S512x64.size k) (x : S16.Idx) :
    loadIdx Tb ![a, b] h x = tabAt Tb (a x).toNat (b x).toNat := by
  have h0 : (a x).toNat < 512 := h 0 x
  have h1 : (b x).toNat < 64 := h 1 x
  refine congrArg Tb (funext fun k => Fin.ext ?_)
  match k with
  | ⟨0, _⟩ => exact (Nat.mod_eq_of_lt h0).symm
  | ⟨1, _⟩ => exact (Nat.mod_eq_of_lt h1).symm

omit [FloatOps F] in
/-- A gather from the characters at word vector `a` and place vector `b`. -/
theorem loadIdx_chr (C : Vec F S512x16 .i32) (a b : IVec S16 32)
    (h : ∀ k x, ((![a, b] : Fin 2 → IVec S16 32) k x).toNat < S512x16.size k) (x : S16.Idx) :
    loadIdx C ![a, b] h x = chrAt C (a x).toNat (b x).toNat := by
  have h0 : (a x).toNat < 512 := h 0 x
  have h1 : (b x).toNat < 16 := h 1 x
  refine congrArg C (funext fun k => Fin.ext ?_)
  match k with
  | ⟨0, _⟩ => exact (Nat.mod_eq_of_lt h0).symm
  | ⟨1, _⟩ => exact (Nat.mod_eq_of_lt h1).symm

omit [FloatOps F] in
/-- A gather from the lengths at word vector `a`. -/
theorem loadIdx_len (N : Vec F S512 .i32) (a : IVec S16 32)
    (h : ∀ k x, ((![a] : Fin 1 → IVec S16 32) k x).toNat < S512.size k) (x : S16.Idx) :
    loadIdx N ![a] h x = lenAt N (a x).toNat := by
  have h0 : (a x).toNat < 512 := h 0 x
  refine congrArg N (funext fun k => Fin.ext ?_)
  match k with
  | ⟨0, _⟩ => exact (Nat.mod_eq_of_lt h0).symm

/-- One more character's low halves. -/
theorem accV_lo_step (Tb : IVec S512x64 32) (C : IVec S512x16 32) (r c n : ℕ) (w : IVec S16 32)
    (hw : ∀ x, w x = tabAt Tb (chrAt C r n).toNat (c + (x 0).val)) :
    addf (accV (F := F) lo Tb C r c n) (bitcastToFloat .f32 (shli w (broadcast S16 16#32))) = accV lo Tb C r c (n + 1) := by
  funext x
  simp only [addf, bitcastToFloat, shli, broadcast, accV, sumUpTo, lo, hw x]
  rfl

/-- One more character's high halves. -/
theorem accV_hi_step (Tb : IVec S512x64 32) (C : IVec S512x16 32) (r c n : ℕ) (w : IVec S16 32)
    (hw : ∀ x, w x = tabAt Tb (chrAt C r n).toNat (c + (x 0).val)) :
    addf (accV (F := F) hi Tb C r c n) (bitcastToFloat .f32 (andi w (broadcast S16 4294901760#32))) = accV hi Tb C r c (n + 1) := by
  funext x
  simp only [addf, bitcastToFloat, andi, broadcast, accV, sumUpTo, hi, hw x]

end Cert.Proof.Pool

end
-- ==== Proof.Inner.lean ====
/-
  One trip of the innermost loop: the words of the rows that character `t` of each word of a pair names are read from
  the table, and their halves added to the sixteen running vectors.
-/
module

public import proofs.«01_k».proof.Proof.Base

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

local notation "𝕄" => MM F

/-- The table as the tile holds it, whole. -/
abbrev tbPts (Tb : Vec F S512x64 .i32) : sProp 𝕄 := (tbV).view.loc (thr d L) ↦[Finset.univ]{fullShare} Tb
/-- The characters as the tile holds them, whole; -/
abbrev chPts (C : Vec F S512x16 .i32) : sProp 𝕄 := (chV).view.loc (thr d L) ↦[Finset.univ]{fullShare} C
/-- and the lengths. -/
abbrev lePts (N : Vec F S512 .i32) : sProp 𝕄 := (leV).view.loc (thr d L) ↦[Finset.univ]{fullShare} N

/-- Gathering words of the table held in the tile, at places inside it, gives those words and leaves the table as it was; -/
theorem wp_gather_tb {t : Shape} {α : Type} {Q : α → sProp 𝕄} (f : Vec F S512x64 .i32) (idxs : Fin 2 → IVec t 32)
    (h : ∀ a x, (idxs a x).toNat < S512x64.size a) (hl : (tbV).view.Loads)
    (kk : Vec F t .i32 → Prog (TpuEff nD τ sig (Elt F) Λ₀ (thr d L).2) α) :
    tbPts d L f ⊢ iprop((tbPts d L f -∗ wp frame (wpE (defs₀ (F := F)) 𝒱₀ (thr d L) none) Set.univ (kk (loadIdx f idxs h)) Q)
      -∗ wp frame (wpE (defs₀ (F := F)) 𝒱₀ (thr d L) none) Set.univ (SparseCore.vectorLoadIdx tbV idxs h hl >>= kk) Q) := by
  have e := SparseCore.wp_vectorLoadIdx (defs := defs₀ (F := F)) 𝒱₀ (thr d L) none Set.univ (base := tbV) (idxs := idxs) (h := h) (hl := hl)
    (k := kk) (Q := Q) (S := Finset.univ) (q := fullShare) (f := f) (Finset.subset_univ _)
  rw [show ((tbV).access (.whole S512x64)).read (Elt F) f = f from Memref.read_access_whole (Elt F) cc0_scratch0 f] at e
  exact e

/-- the same for the characters, -/
theorem wp_gather_ch {t : Shape} {α : Type} {Q : α → sProp 𝕄} (f : Vec F S512x16 .i32) (idxs : Fin 2 → IVec t 32)
    (h : ∀ a x, (idxs a x).toNat < S512x16.size a) (hl : (chV).view.Loads)
    (kk : Vec F t .i32 → Prog (TpuEff nD τ sig (Elt F) Λ₀ (thr d L).2) α) :
    chPts d L f ⊢ iprop((chPts d L f -∗ wp frame (wpE (defs₀ (F := F)) 𝒱₀ (thr d L) none) Set.univ (kk (loadIdx f idxs h)) Q)
      -∗ wp frame (wpE (defs₀ (F := F)) 𝒱₀ (thr d L) none) Set.univ (SparseCore.vectorLoadIdx chV idxs h hl >>= kk) Q) := by
  have e := SparseCore.wp_vectorLoadIdx (defs := defs₀ (F := F)) 𝒱₀ (thr d L) none Set.univ (base := chV) (idxs := idxs) (h := h) (hl := hl)
    (k := kk) (Q := Q) (S := Finset.univ) (q := fullShare) (f := f) (Finset.subset_univ _)
  rw [show ((chV).access (.whole S512x16)).read (Elt F) f = f from Memref.read_access_whole (Elt F) cc0_scratch1 f] at e
  exact e

/-- and for the lengths. -/
theorem wp_gather_le {t : Shape} {α : Type} {Q : α → sProp 𝕄} (f : Vec F S512 .i32) (idxs : Fin 1 → IVec t 32)
    (h : ∀ a x, (idxs a x).toNat < S512.size a) (hl : (leV).view.Loads)
    (kk : Vec F t .i32 → Prog (TpuEff nD τ sig (Elt F) Λ₀ (thr d L).2) α) :
    lePts d L f ⊢ iprop((lePts d L f -∗ wp frame (wpE (defs₀ (F := F)) 𝒱₀ (thr d L) none) Set.univ (kk (loadIdx f idxs h)) Q)
      -∗ wp frame (wpE (defs₀ (F := F)) 𝒱₀ (thr d L) none) Set.univ (SparseCore.vectorLoadIdx leV idxs h hl >>= kk) Q) := by
  have e := SparseCore.wp_vectorLoadIdx (defs := defs₀ (F := F)) 𝒱₀ (thr d L) none Set.univ (base := leV) (idxs := idxs) (h := h) (hl := hl)
    (k := kk) (Q := Q) (S := Finset.univ) (q := fullShare) (f := f) (Finset.subset_univ _)
  rw [show ((leV).access (.whole S512)).read (Elt F) f = f from Memref.read_access_whole (Elt F) cc0_scratch2 f] at e
  exact e

/-- The first sixteen column numbers are the lanes' own. -/
theorem pay110_toNat (x : S16.Idx) : (k0_pay110 x).toNat = 0 + (x 0).val := by revert x; decide +kernel
/-- The second sixteen column numbers start at 16; -/
theorem pay111_toNat (x : S16.Idx) : (k0_pay111 x).toNat = 16 + (x 0).val := by revert x; decide +kernel
/-- the third at 32; -/
theorem pay112_toNat (x : S16.Idx) : (k0_pay112 x).toNat = 32 + (x 0).val := by revert x; decide +kernel
/-- the fourth at 48. -/
theorem pay113_toNat (x : S16.Idx) : (k0_pay113 x).toNat = 48 + (x 0).val := by revert x; decide +kernel

/-- A vector of row numbers below 512, with the four column vectors, stays inside the table. -/
theorem chk_cols (w : IVec S16 32) (hw : ∀ x, (w x).toNat < 512) :
    k0_chk6 k0_pay110 k0_pay111 k0_pay112 k0_pay113 w := by
  have hx : ∀ x : S16.Idx, (x 0).val < 16 := fun x => (x 0).isLt
  refine ⟨?_, ?_, ?_, ?_⟩ <;> intro a x <;> have := hx x <;> match a with
    | ⟨0, _⟩ => exact hw x
    | ⟨1, _⟩ => first
      | exact (pay110_toNat x).trans_lt (show _ < 64 by omega)
      | exact (pay111_toNat x).trans_lt (show _ < 64 by omega)
      | exact (pay112_toNat x).trans_lt (show _ < 64 by omega)
      | exact (pay113_toNat x).trans_lt (show _ < 64 by omega)

/-- The body of the loop over characters, at the tile's own buffers. -/
abbrev innerProg (k2 : Fin k0_t2_loop.trips) (v18 v20 : IVec S16 32) (v29 : BitVec 32) (hw : k0_chk4 v29) :=
  k0_t3_body (F := F) L ciV (Memref.isWhole_whole _) lnV (Memref.isWhole_whole _) pkV (Memref.isWhole_whole _)
    ouV (Memref.isWhole_whole _) tbV (Memref.isWhole_whole _) chV (Memref.isWhole_whole _) leV (Memref.isWhole_whole _)
    obV (Memref.isWhole_whole _) cc0_scoped0 cc0_scoped1 cc0_scoped2 cc0_scoped3 cc0_scoped4
    k0_pay110 k0_pay111 k0_pay112 k0_pay113 0#32 1#32 k2 v18 v20 v29 hw

/-- One trip of the loop over characters: with the sixteen running sums of rows `r` and `s` over the characters below `k`,
    it adds character `k` of both, and leaves the table and the characters as they were. -/
theorem inner_trip (Tb : Vec F S512x64 .i32) (C : Vec F S512x16 .i32) (hC : ∀ i, (C i).toNat < 512)
    (k2 : Fin k0_t2_loop.trips) (v18 v20 : IVec S16 32) (v29 : BitVec 32) (hw : k0_chk4 v29) (r s : ℕ)
    (hr : r < 512) (hs : s < 512) (h18 : ∀ x, (v18 x).toNat = r) (h20 : ∀ x, (v20 x).toNat = s)
    (htr : (k0_t3_loop v29).trips ≤ 16) (k : Fin (k0_t3_loop v29).trips) (acc) :
    iprop(tbPts d L Tb ∗ chPts d L C ∗ ⌜acc = accs Tb C r s k.val⌝)
      ⊢ wp frame (wpE (defs₀ (F := F)) 𝒱₀ (thr d L) none) Set.univ (innerProg L k2 v18 v20 v29 hw k acc)
          fun acc' => iprop(tbPts d L Tb ∗ chPts d L C ∗ ⌜acc' = accs Tb C r s (k.val + 1)⌝) := by
  have hk : k.val < 16 := lt_of_lt_of_le k.isLt htr
  have hiv : (Scf.iv 0#32 1#32 k.val).toNat = k.val := by
    rw [Scf.iv]; simp; omega
  have h5 : k0_chk5 v18 v20 (broadcast S16 (Scf.iv 0#32 1#32 k.val)) := by
    constructor <;> intro a x <;> match a with
      | ⟨0, _⟩ => first | exact (h18 x).trans_lt hr | exact (h20 x).trans_lt hs
      | ⟨1, _⟩ => exact hiv.trans_lt hk
  iintro ⟨Ht, Hc, %hacc⟩
  subst hacc
  unfold innerProg k0_t3_body accs
  simp only [k0_part1_eq_skeleton]
  unfold k0_part1_skel
  simp only [Prog.lift, bind_assoc, Prog.bind_op, Prog.bind_ret, Prog.pure_eq_ret]
  have hv : ∀ x, loadIdx C ![v18, broadcast S16 (Scf.iv 0#32 1#32 k.val)] (k0_idx4_inb v18 v20 _ h5) x = chrAt C r k.val := fun x => by
    rw [loadIdx_chr, h18]; exact congrArg (chrAt C r) hiv
  have hu : ∀ x, loadIdx C ![v20, broadcast S16 (Scf.iv 0#32 1#32 k.val)] (k0_idx5_inb v18 v20 _ h5) x = chrAt C s k.val := fun x => by
    rw [loadIdx_chr, h20]; exact congrArg (chrAt C s) hiv
  have h6 : k0_chk6 k0_pay110 k0_pay111 k0_pay112 k0_pay113 (loadIdx C ![v18, broadcast S16 (Scf.iv 0#32 1#32 k.val)] (k0_idx4_inb v18 v20 _ h5)) :=
    chk_cols _ fun x => (congrArg BitVec.toNat (hv x)).trans_lt (hC _)
  have h7 : k0_chk7 k0_pay110 k0_pay111 k0_pay112 k0_pay113 (loadIdx C ![v20, broadcast S16 (Scf.iv 0#32 1#32 k.val)] (k0_idx5_inb v18 v20 _ h5)) :=
    chk_cols _ fun x => (congrArg BitVec.toNat (hu x)).trans_lt (hC _)
  rw [wp_assume_of 𝒱₀ (thr d L) none Set.univ h5]
  iapply (wp_gather_ch d L C) $$ Hc; iintro Hc
  rw [wp_assume_of 𝒱₀ (thr d L) none Set.univ h6]
  iapply (wp_gather_ch d L C) $$ Hc; iintro Hc
  rw [wp_assume_of 𝒱₀ (thr d L) none Set.univ h7]
  generalize loadIdx C ![v18, broadcast S16 (Scf.iv 0#32 1#32 k.val)] (k0_idx4_inb v18 v20 _ h5) = va at hv h6 ⊢
  generalize loadIdx C ![v20, broadcast S16 (Scf.iv 0#32 1#32 k.val)] (k0_idx5_inb v18 v20 _ h5) = vb at hu h7 ⊢
  iapply (wp_gather_tb d L Tb) $$ Ht; iintro Ht
  iapply (wp_gather_tb d L Tb) $$ Ht; iintro Ht
  iapply (wp_gather_tb d L Tb) $$ Ht; iintro Ht
  iapply (wp_gather_tb d L Tb) $$ Ht; iintro Ht
  iapply (wp_gather_tb d L Tb) $$ Ht; iintro Ht
  iapply (wp_gather_tb d L Tb) $$ Ht; iintro Ht
  iapply (wp_gather_tb d L Tb) $$ Ht; iintro Ht
  iapply (wp_gather_tb d L Tb) $$ Ht; iintro Ht
  rw [wp_ret]; imodintro
  isplitl [Ht]; · iexact Ht
  isplitl [Hc]; · iexact Hc
  ipureintro
  simp only [Prod.mk.injEq]
  have e : ∀ (a b : IVec S16 32) (r' c : ℕ) (ha : ∀ x, a x = chrAt C r' k.val) (hb : ∀ x, (b x).toNat = c + (x 0).val)
      (h : ∀ a' x, ((![a, b] : Fin 2 → IVec S16 32) a' x).toNat < S512x64.size a') (x : S16.Idx),
      loadIdx Tb ![a, b] h x = tabAt Tb (chrAt C r' k.val).toNat (c + (x 0).val) := fun a b r' c ha hb h x => by
    rw [loadIdx_tab, ha, hb]
  refine ⟨?_, ?_, ?_, ?_, ?_, ?_, ?_, ?_, ?_, ?_, ?_, ?_, ?_, ?_, ?_, ?_⟩
  · exact accV_lo_step Tb C r 0 _ _ (e _ _ _ _ hv pay110_toNat _)
  · exact accV_lo_step Tb C r 16 _ _ (e _ _ _ _ hv pay111_toNat _)
  · exact accV_lo_step Tb C r 32 _ _ (e _ _ _ _ hv pay112_toNat _)
  · exact accV_lo_step Tb C r 48 _ _ (e _ _ _ _ hv pay113_toNat _)
  · exact accV_hi_step Tb C r 0 _ _ (e _ _ _ _ hv pay110_toNat _)
  · exact accV_hi_step Tb C r 16 _ _ (e _ _ _ _ hv pay111_toNat _)
  · exact accV_hi_step Tb C r 32 _ _ (e _ _ _ _ hv pay112_toNat _)
  · exact accV_hi_step Tb C r 48 _ _ (e _ _ _ _ hv pay113_toNat _)
  · exact accV_lo_step Tb C s 0 _ _ (e _ _ _ _ hu pay110_toNat _)
  · exact accV_lo_step Tb C s 16 _ _ (e _ _ _ _ hu pay111_toNat _)
  · exact accV_lo_step Tb C s 32 _ _ (e _ _ _ _ hu pay112_toNat _)
  · exact accV_lo_step Tb C s 48 _ _ (e _ _ _ _ hu pay113_toNat _)
  · exact accV_hi_step Tb C s 0 _ _ (e _ _ _ _ hu pay110_toNat _)
  · exact accV_hi_step Tb C s 16 _ _ (e _ _ _ _ hu pay111_toNat _)
  · exact accV_hi_step Tb C s 32 _ _ (e _ _ _ _ hu pay112_toNat _)
  · exact accV_hi_step Tb C s 48 _ _ (e _ _ _ _ hu pay113_toNat _)

end Cert.Proof.Pool

end
-- ==== Proof.Clean.lean ====
/-
  One trip of the masking loop: the characters of one word at or past its length become character 0.
-/
module

public import Idealize.ShloMosaic.Lib.Pipeline.Value
public import proofs.«01_k».proof.Proof.Inner

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

local notation "𝕄" => MM F

/-- The characters with those at or past their word's length made 0. -/
def cleaned (C : IVec S512x16 32) (N : IVec S512 32) : IVec S512x16 32 := fun y =>
  if (BitVec.ofNat 32 (y 1).val).slt (lenAt N (y 0).val) then C y else 0#32

/-- The body of the loop that masks the characters, at the tile's own buffers. -/
abbrev cleanProg := k0_t1_body (F := F) L ciV (Memref.isWhole_whole _) lnV (Memref.isWhole_whole _) pkV (Memref.isWhole_whole _)
    ouV (Memref.isWhole_whole _) tbV (Memref.isWhole_whole _) chV (Memref.isWhole_whole _) leV (Memref.isWhole_whole _)
    obV (Memref.isWhole_whole _) cc0_scoped0 cc0_scoped1 cc0_scoped2 cc0_scoped3 cc0_scoped4

/-- Before trip `k`: the words below `k` are masked, the rest as they came. -/
def cleanInv (C : Vec F S512x16 .i32) (N : Vec F S512 .i32) (k : ℕ) (_ : Unit) : sProp 𝕄 :=
  iprop(lePts d L N ∗ chPts d L (fun y : S512x16.Idx => if (y 0).val < k then cleaned C N y else C y))

/-- A vector of 16 laid out as one row, read at a place of the row; -/
theorem row_of_vec {α : Type} (v : S16.Idx → α) (h : S16.ShapeCasts S1x16) (x : S1x16.Idx) :
    shapeCast S1x16 v h x = v (ix1 (x 1)) := by
  rw [shapeCast_addUnit_apply]
  exact congrArg v (funext fun a => by match a with | ⟨0, _⟩ => rfl)

/-- and a row read as a vector. -/
theorem vec_of_row {α : Type} (v : S1x16.Idx → α) (h : S1x16.ShapeCasts S16) (x : S16.Idx) :
    shapeCast S16 v h x = v (ix2 0 (x 0)) := by
  refine shapeCast_apply v h x _ ?_
  rw [Shape.rowMajor_val_two, Shape.rowMajor_val_one]
  simp [ix2]

/-- Writing back the masked row `k` masks the words below `k + 1`. -/
theorem clean_write (C : Vec F S512x16 .i32) (N : Vec F S512 .i32) (k : ℕ) (hk : k < 512) (off : Fin 2 → ℕ) (hoff : off = ![k, 0])
    (inb : ∀ a, off a + (![1, 16] : Fin 2 → ℕ) a ≤ S512x16.size a) (w : BitVec 32)
    (hi : ∀ a x, ((![broadcast S16 w] : Fin 1 → IVec S16 32) a x).toNat < S512.size a) (hiv : w.toNat = k) :
    (chV).view.writes (Elt F) (fun y : S512x16.Idx => if (y 0).val < k then cleaned C N y else C y)
      [⟨Rect.unit (s := S512x16) off ![1, 16] inb, shapeCast S1x16 (k0_pay114 (F := F) (loadIdx N ![broadcast S16 w] hi)
        ((chV).view.readAt (Elt F) (Rect.unit (s := S512x16) off ![1, 16] inb).toLoadRect
          (fun y : S512x16.Idx => if (y 0).val < k then cleaned C N y else C y))) shapeCasts_S16_S1x16⟩]
      = fun y : S512x16.Idx => if (y 0).val < k + 1 then cleaned C N y else C y := by
  subst hoff
  refine funext fun (y : S512x16.Idx) => ?_
  refine (congrFun (View.read_whole (Val := Elt F) cc0_scratch1 _).symm y).trans ?_
  by_cases hy : (y 0).val = k
  · have hx : ∀ a, (y a).val = (![k, 0] : Fin 2 → ℕ) a + 1 * ((ix2 (0 : Fin 1) (y 1 : Fin 16) : S1x16.Idx) a).val := fun a => by
      match a with
      | ⟨0, _⟩ => simp [ix2, hy]
      | ⟨1, _⟩ => simp [ix2]
    have hr : (Rect.unit (s := S512x16) ![k, 0] ![1, 16] inb).emb (ix2 (0 : Fin 1) (y 1 : Fin 16) : S1x16.Idx) = y :=
      Rect.emb_eq_of_coords _ _ _ hx
    refine (View.read_writes_cons_hit _ _ _ _ _ _ y hr).trans ((row_of_vec _ _ _).trans ?_)
    have hl : loadIdx N ![broadcast S16 w] hi (ix1 (y 1)) = lenAt N (y 0).val := by
      rw [loadIdx_len, hy]; exact congrArg (lenAt N) hiv
    have hc : shapeCast S16 ((chV).view.readAt (Elt F) (Rect.unit (s := S512x16) ![k, 0] ![1, 16] inb).toLoadRect
        (fun y : S512x16.Idx => if (y 0).val < k then cleaned C N y else C y)) shapeCasts_S1x16_S16 (ix1 (y 1)) = C y := by
      refine (vec_of_row _ _ _).trans ?_
      refine (congrArg (fun y : S512x16.Idx => if (y 0).val < k then cleaned C N y else C y) hr).trans ?_
      exact if_neg (by omega)
    rw [if_pos (by omega)]
    show (if IntOp.cmpi .slt (iota .scVector S16 32 [0] iota_S16_d0_w32_scVector (ix1 (y 1)))
      (loadIdx N ![broadcast S16 w] hi (ix1 (y 1))) = 1#1 then shapeCast S16 _ shapeCasts_S1x16_S16 (ix1 (y 1)) else 0#32) = _
    rw [hl, hc, iota_single_apply]
    have key : ∀ (b : Bool) (u v : BitVec 32), (if BitVec.ofBool b = 1#1 then u else v) = if b then u else v := fun b u v => by
      cases b <;> rfl
    exact key _ _ _
  · rw [View.read_writes_cons_miss_of_axis _ _ _ _ y 0 k 1 rfl rfl rfl (by omega)]
    show (if (y 0).val < k then cleaned C N y else C y) = _
    rw [if_congr (show (y 0).val < k ↔ (y 0).val < k + 1 by omega) rfl rfl]

/-- One trip of the masking loop: the word `k` is masked. -/
theorem clean_trip (C : Vec F S512x16 .i32) (N : Vec F S512 .i32) (k : Fin k0_t1_loop.trips) (acc : Unit) :
    cleanInv d L C N k.val acc
      ⊢ wp frame (wpE (defs₀ (F := F)) 𝒱₀ (thr d L) none) Set.univ (cleanProg L k acc) (cleanInv d L C N (k.val + 1)) := by
  have hk : k.val < 512 := Nat.lt_of_lt_of_le k.isLt k0_t1_abs.2.1
  have hiv : (Scf.iv 0#32 1#32 k.val).toNat = k.val := by
    rw [Scf.iv]; simp; omega
  have h1 : k0_chk1 (broadcast S16 (Scf.iv 0#32 1#32 k.val)) := by
    intro a x; match a with
      | ⟨0, _⟩ => exact hiv.trans_lt hk
  unfold cleanInv cleanProg k0_t1_body
  iintro ⟨Hn, Hc⟩
  simp only [Prog.lift, bind_assoc, Prog.bind_op, Prog.bind_ret, Prog.pure_eq_ret]
  rw [wp_assume_of 𝒱₀ (thr d L) none Set.univ h1]
  iapply (wp_gather_le d L N) $$ Hn; iintro Hn
  sl_exec
  rw [wp_ret]; imodintro
  isplitl [Hn]; · iexact Hn
  unfold clean_trip.sl.v20_ld
  rw [clean_write C N k.val hk (k0_off3 k) (k0_off3_eq k) _ _ _ hiv]
  iexact Hc

end Cert.Proof.Pool

end
-- ==== Proof.Pair.lean ====
/-
  One trip of the loop over pairs of words: the sums of two words' characters, divided by their lengths and stored as
  two rows of the result's half.
-/
module

public import proofs.«01_k».proof.Proof.Clean

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

local notation "𝕄" => MM F

/-! ## What a trip leaves -/

/-- How many characters of words `r` and `s` the pair's loop reads: the greater of the two lengths. -/
def cnt (N : IVec S512 32) (r s : ℕ) : ℕ := max (lenAt N r).toNat (lenAt N s).toNat

/-- One over a length, the length at least 1. -/
def scale (n : BitVec 32) : F .f32 :=
  FloatOps.divf (Scalar.ofBits .f32 0x3F800000#32) (FloatOps.sitofp .f32 (IntOp.maxsi n 1#32))

/-- Column `c` of the result's row for word `r`, read in a pair with word `s`. -/
def rowOut (Tb : IVec S512x64 32) (C : IVec S512x16 32) (N : IVec S512 32) (r s c : ℕ) : F .f32 :=
  FloatOps.mulf
    (if c < 64 then sumUpTo lo (fun t => tabAt Tb (chrAt C r t).toNat c) (cnt N r s)
      else sumUpTo hi (fun t => tabAt Tb (chrAt C r t).toNat (c - 64)) (cnt N r s))
    (scale (lenAt N r))

/-- The place, in the half of 256 words, of the word that place `p` is paired with. -/
def mate (p : ℕ) : ℕ := if p < 128 then p + 128 else p - 128

/-- The result's half that begins at word `base`. -/
def halfOut (Tb : IVec S512x64 32) (C : IVec S512x16 32) (N : IVec S512 32) (base : ℕ) : FVec F S256x128 .f32 :=
  fun y => rowOut Tb C N (base + (y 0).val) (base + mate (y 0).val) (y 1).val

/-! ## The loop's count -/

/-- The running maximum of a vector of one word is that word. -/
theorem scan_max_const (w : BitVec 32) (x : S16.Idx) : scan .max (fun _ : S16.Idx => w) x = w := by
  unfold scan
  simp only
  generalize (List.finRange _).filter _ = l
  induction l with
  | nil => rfl
  | cons a l ih =>
    rw [List.foldl_cons]
    have : ScanKind.max.step w w = w := ite_self _
    rw [this]; exact ih

/-- The signed maximum of two words below 2 ^ 31 is the greater number. -/
theorem maxsi_toNat (a b : BitVec 32) (ha : a.toNat ≤ 16) (hb : b.toNat ≤ 16) : (IntOp.maxsi a b).toNat = max a.toNat b.toNat := by
  have hs : b.slt a = decide (b.toNat < a.toNat) := by
    rw [BitVec.slt_eq_ult_of_msb_eq]
    · rfl
    · rw [BitVec.msb_eq_false_iff_two_mul_lt.2 (by omega), BitVec.msb_eq_false_iff_two_mul_lt.2 (by omega)]
  unfold IntOp.maxsi
  rw [hs]
  by_cases h : b.toNat < a.toNat
  · rw [if_pos (by simpa using h)]; omega
  · rw [if_neg (by simpa using h)]; omega

/-- The loop over the characters of a pair makes as many trips as its bound says. -/
theorem inner_trips (v : BitVec 32) (hv : v.toNat ≤ 16) : (k0_t3_loop v).trips = v.toNat := by
  have : ∀ n : Fin 17, (k0_t3_loop (BitVec.ofNat 32 n.val)).trips = n.val := by decide
  have h := this ⟨v.toNat, by omega⟩
  simpa using h

/-- The loop over the rest of the characters, which a step of 1 leaves empty, returns what it is given. -/
theorem rem_loop (w : BitVec 32) {E : Type → Type} {σ : Type} (hok : (k0_t4_loop w).OK) (i : σ) (bd : Fin (k0_t4_loop w).trips → σ → Prog E σ) :
    Scf.Loop.for (k0_t4_loop w) hok i bd = .ret i :=
  Scf.for_eq_ret _ _ _ hok i bd (Nat.le_zero.1 (k0_t4_abs w).2.1)

/-- The bound read from the two length vectors. -/
theorem bound_eq (u v : IVec S16 32) (a b : BitVec 32) (hu : ∀ x, u x = a) (hv : ∀ x, v x = b) :
    extractAt ![15] (k0_pay27 (F := F) u v) inpos_S16_p15 = IntOp.maxsi a b := by
  obtain rfl : u = fun _ => a := funext hu
  obtain rfl : v = fun _ => b := funext hv
  show IntOp.xori (scan .max (fun _ : S16.Idx => IntOp.xori (IntOp.maxsi a b) 2147483648#32) _) 2147483648#32 = _
  rw [scan_max_const]
  unfold IntOp.xori
  rw [BitVec.xor_assoc, BitVec.xor_self, BitVec.xor_zero]

/-! ## The trip -/

/-- The buffer of one half's results, as the tile holds it. -/
abbrev obPts (g : Vec F S256x128 .f32) : sProp 𝕄 := (obV).view.loc (thr d L) ↦[Finset.univ]{fullShare} g

/-- Sixteen lanes stored as part of a row of the half held in the tile (the row is read first, and the value not used). -/
def put (off : Fin 2 → ℕ) (inb : ∀ a, off a + S1x16.size a ≤ S256x128.size a) (w : FVec F S16 .f32) :
    Prog (TpuEff nD τ sig (Elt F) Λ₀ (thr d L).2) Unit := do
  let _ ← Prog.lift (.load obV (Rect.unit (s := S256x128) off S1x16.size inb).toLoadRect (View.loadsAt_vmem h_S1x16))
  Prog.lift (.store obV (Rect.unit (s := S256x128) off S1x16.size inb) (shapeCast S1x16 w shapeCasts_S16_S1x16) Finset.univ
    (View.stores_vmem_bits_univ h_S1x16 rfl) (.inl rfl))

/-- The trip for words `b + k` and `b + k + 128`. -/
def pairProg (b : BitVec 32) (k : Fin k0_t2_loop.trips) : Prog (TpuEff nD τ sig (Elt F) Λ₀ (thr d L).2) Unit := do
  let ⟨a10, v34, v39, v1, v2, v3, v4, v5, v6, v7, v9, v10, v11, v12, v13, v14, v15, v51, ld⟩ ←
    k0_part3 (F := F) L ciV (Memref.isWhole_whole _) lnV (Memref.isWhole_whole _) pkV (Memref.isWhole_whole _)
      ouV (Memref.isWhole_whole _) tbV (Memref.isWhole_whole _) chV (Memref.isWhole_whole _) leV (Memref.isWhole_whole _)
      obV (Memref.isWhole_whole _) cc0_scoped0 cc0_scoped1 cc0_scoped2 cc0_scoped3 cc0_scoped4
      k0_pay110 k0_pay111 k0_pay112 k0_pay113 b 1#32 k
  let v83 ← k0_part4 (F := F) L ciV (Memref.isWhole_whole _) lnV (Memref.isWhole_whole _) pkV (Memref.isWhole_whole _)
      ouV (Memref.isWhole_whole _) tbV (Memref.isWhole_whole _) chV (Memref.isWhole_whole _) leV (Memref.isWhole_whole _)
      obV (Memref.isWhole_whole _) cc0_scoped0 cc0_scoped1 cc0_scoped2 cc0_scoped3 cc0_scoped4
      k a10 v34 v39 v1 v2 v3 v4 v5 v9 v10 v11 v12 v51 ld
  put d L (k0_off14 k) (k0_off14_inb k) v83
  put d L (k0_off15 k) (k0_off15_inb k) (k0_pay115 v39 v13)
  put d L (k0_off16 k) (k0_off16_inb k) (k0_pay116 v34 v6)
  put d L (k0_off17 k) (k0_off17_inb k) (k0_pay117 v39 v14)
  put d L (k0_off18 k) (k0_off18_inb k) (k0_pay118 v34 v7)
  put d L (k0_off19 k) (k0_off19_inb k) (k0_pay119 v39 v15)

/-- The first half's trip is the trip from word 0. -/
theorem t2_eq (k : Fin k0_t2_loop.trips) : k0_t2_body (F := F) L ciV (Memref.isWhole_whole _) lnV (Memref.isWhole_whole _) pkV (Memref.isWhole_whole _)
      ouV (Memref.isWhole_whole _) tbV (Memref.isWhole_whole _) chV (Memref.isWhole_whole _) leV (Memref.isWhole_whole _)
      obV (Memref.isWhole_whole _) cc0_scoped0 cc0_scoped1 cc0_scoped2 cc0_scoped3 cc0_scoped4 k () = pairProg d L 0#32 k := rfl

/-- The second half's trip is the trip from word 256. -/
theorem t5_eq (k : Fin k0_t5_loop.trips) : k0_t5_body (F := F) L ciV (Memref.isWhole_whole _) lnV (Memref.isWhole_whole _) pkV (Memref.isWhole_whole _)
      ouV (Memref.isWhole_whole _) tbV (Memref.isWhole_whole _) chV (Memref.isWhole_whole _) leV (Memref.isWhole_whole _)
      obV (Memref.isWhole_whole _) cc0_scoped0 cc0_scoped1 cc0_scoped2 cc0_scoped3 cc0_scoped4
      k0_pay110 k0_pay111 k0_pay112 k0_pay113 k () = pairProg d L 256#32 k := by
  have h : Scalar.addi 256#32 (Scf.iv 0#32 1#32 k.val) = Scalar.addi 0#32 (Scf.iv 256#32 1#32 k.val) := by
    simp [Scalar.addi, IntOp.addi, Scf.iv]
  unfold k0_t5_body pairProg
  simp only [k0_part7_eq_skeleton, k0_part3_eq_skeleton, k0_part8_eq_skeleton, k0_part4_eq_skeleton]
  unfold k0_part7_skel k0_part3_skel k0_part8_skel k0_part4_skel
  dsimp only
  rw [h]
  generalize Scalar.addi 0#32 (Scf.iv 256#32 1#32 k.val) = w
  simp only [bind_assoc, pure_bind]
  rfl

/-- A sixteen-lane part of a row: which places it covers. -/
theorem mem_part (off : Fin 2 → ℕ) (p col : ℕ) (hoff : off = ![p, col]) (inb : ∀ a, off a + (![1, 16] : Fin 2 → ℕ) a ≤ S256x128.size a)
    (y : S256x128.Idx) :
    y ∈ (Rect.unit (s := S256x128) off ![1, 16] inb).set ↔ (y 0).val = p ∧ col ≤ (y 1).val ∧ (y 1).val < col + 16 := by
  subst hoff
  rw [Rect.mem_set_unit]
  constructor
  · intro h
    have h0 : p ≤ (y 0).val ∧ (y 0).val < p + 1 := h 0
    have h1 : col ≤ (y 1).val ∧ (y 1).val < col + 16 := h 1
    omega
  · rintro ⟨h0, h1, h2⟩ a
    match a with
    | ⟨0, _⟩ => exact (show p ≤ (y 0).val ∧ (y 0).val < p + 1 by omega)
    | ⟨1, _⟩ => exact (show col ≤ (y 1).val ∧ (y 1).val < col + 16 by omega)

/-- The number of characters read does not depend on the order of the pair. -/
theorem cnt_comm (N : IVec S512 32) (r s : ℕ) : cnt N r s = cnt N s r := max_comm _ _

/-- Sixteen lanes of a word's scaled sums are the result's values at the places they are stored. -/
theorem part_eq (Tb : IVec S512x64 32) (C : IVec S512x16 32) (N : IVec S512 32) (base p col r c n : ℕ) (g : BitVec 32 → F .f32)
    (hg : (g = lo ∧ col = c ∧ c + 16 ≤ 64) ∨ (g = hi ∧ col = c + 64)) (hr : r = base + p)
    (hn : n = cnt N (base + p) (base + mate p)) (sc : FVec F S16 .f32) (hsc : ∀ x, sc x = scale (lenAt N r))
    (off : Fin 2 → ℕ) (hoff : off = ![p, col]) (inb : ∀ a, off a + (![1, 16] : Fin 2 → ℕ) a ≤ S256x128.size a) (x : S1x16.Idx) :
    shapeCast S1x16 (mulf (accV g Tb C r c n) sc) shapeCasts_S16_S1x16 x
      = halfOut Tb C N base ((Rect.unit (s := S256x128) off ![1, 16] inb).emb x) := by
  subst hoff hr hn
  have h0 : (((Rect.unit (s := S256x128) ![p, col] ![1, 16] inb).emb x) 0).val = p := by
    show p + 1 * (x 0).val = p
    have : (x 0).val < 1 := (x 0).isLt
    omega
  have h1 : (((Rect.unit (s := S256x128) ![p, col] ![1, 16] inb).emb x) 1).val = col + (x 1).val := by
    show col + 1 * (x 1).val = _
    omega
  have hx : (x 1).val < 16 := (x 1).isLt
  rw [row_of_vec]
  unfold halfOut rowOut
  rw [h0, h1]
  show FloatOps.mulf (sumUpTo g (fun t => tabAt Tb (chrAt C (base + p) t).toNat (c + (x 1).val)) _) (sc _) = _
  rw [hsc]
  rcases hg with ⟨rfl, rfl, hc⟩ | ⟨rfl, rfl⟩
  · rw [if_pos (by omega)]
  · rw [if_neg (by omega), show c + 64 + (x 1).val - 64 = c + (x 1).val by omega]

/-- Before trip `k`: rows below `k` of each 128 hold the result. -/
def pairInv (Tb : Vec F S512x64 .i32) (C : Vec F S512x16 .i32) (N : Vec F S512 .i32) (base k : ℕ) (_ : Unit) : sProp 𝕄 :=
  iprop(tbPts d L Tb ∗ chPts d L C ∗ lePts d L N ∗ ∃ g : Vec F S256x128 .f32, obPts d L g
    ∗ ⌜∀ y : S256x128.Idx, (y 0).val % 128 < k → g y = halfOut Tb C N base y⌝)

/-- One trip of the loop over pairs: it stores the results of rows `k` and `k + 128` of the half. -/
theorem pair_trip (Tb : Vec F S512x64 .i32) (C : Vec F S512x16 .i32) (N : Vec F S512 .i32) (hC : ∀ i, (C i).toNat < 512)
    (hN : ∀ i, (N i).toNat ≤ 16) (b : BitVec 32) (base : ℕ) (hb : b.toNat = base) (hbase : base ≤ 256) (k : Fin k0_t2_loop.trips) (acc : Unit) :
    pairInv d L Tb C N base k.val acc
      ⊢ wp frame (wpE (defs₀ (F := F)) 𝒱₀ (thr d L) none) Set.univ (pairProg d L b k) (pairInv d L Tb C N base (k.val + 1)) := by
  have hk : k.val < 128 := Nat.lt_of_lt_of_le k.isLt k0_t2_abs.2.1
  have h18 : ∀ x : S16.Idx, (broadcast S16 (Scalar.addi 0#32 (Scf.iv b 1#32 k.val)) x).toNat = base + k.val := fun x => by
    show (0#32 + (b + BitVec.ofNat 32 k.val * 1#32)).toNat = _
    simp; omega
  have h20 : ∀ x : S16.Idx, (k0_pay26 (broadcast S16 (Scalar.addi 0#32 (Scf.iv b 1#32 k.val))) x).toNat = base + k.val + 128 := fun x => by
    show (0#32 + (b + BitVec.ofNat 32 k.val * 1#32) + 128#32).toNat = _
    simp; omega
  have h2 : k0_chk2 (broadcast S16 (Scalar.addi 0#32 (Scf.iv b 1#32 k.val))) := by
    intro a x; match a with
      | ⟨0, _⟩ => exact (h18 x).trans_lt (show _ < 512 by omega)
  have h3 : k0_chk3 (k0_pay26 (broadcast S16 (Scalar.addi 0#32 (Scf.iv b 1#32 k.val)))) := by
    intro a x; match a with
      | ⟨0, _⟩ => exact (h20 x).trans_lt (show _ < 512 by omega)
  unfold pairInv pairProg
  simp only [k0_part3_eq_skeleton, k0_part4_eq_skeleton]
  unfold k0_part3_skel k0_part4_skel put
  iintro ⟨Ht, Hc, Hn, ⟨%g, Ho, %hg⟩⟩
  simp only [Prog.lift, bind_assoc, Prog.bind_op, Prog.bind_ret, Prog.pure_eq_ret]
  have hu : ∀ x, loadIdx N ![broadcast S16 (Scalar.addi 0#32 (Scf.iv b 1#32 k.val))] (k0_idx2_inb _ h2) x = lenAt N (base + k.val) := fun x => by
    rw [loadIdx_len, h18]
  have hv : ∀ x, loadIdx N ![k0_pay26 (broadcast S16 (Scalar.addi 0#32 (Scf.iv b 1#32 k.val)))] (k0_idx3_inb _ h3) x = lenAt N (base + k.val + 128) := fun x => by
    rw [loadIdx_len, h20]
  rw [wp_assume_of 𝒱₀ (thr d L) none Set.univ h2]
  rw [wp_assume_of 𝒱₀ (thr d L) none Set.univ h3]
  iapply (wp_gather_le d L N) $$ Hn; iintro Hn
  iapply (wp_gather_le d L N) $$ Hn; iintro Hn
  generalize loadIdx N ![broadcast S16 (Scalar.addi 0#32 (Scf.iv b 1#32 k.val))] (k0_idx2_inb _ h2) = u at hu ⊢
  generalize loadIdx N ![k0_pay26 (broadcast S16 (Scalar.addi 0#32 (Scf.iv b 1#32 k.val)))] (k0_idx3_inb _ h3) = v at hv ⊢
  generalize broadcast S16 (Scalar.addi 0#32 (Scf.iv b 1#32 k.val)) = v18 at h18 h20 h2 h3 ⊢
  generalize k0_pay26 v18 = v20 at h20 h3 ⊢
  have hcnt : (extractAt ![15] (k0_pay27 (F := F) u v) inpos_S16_p15).toNat = cnt N (base + k.val) (base + k.val + 128) := by
    rw [bound_eq u v _ _ hu hv]; exact maxsi_toNat _ _ (hN _) (hN _)
  have hc16 : cnt N (base + k.val) (base + k.val + 128) ≤ 16 := max_le (hN _) (hN _)
  have htr : (k0_t3_loop (extractAt ![15] (k0_pay27 (F := F) u v) inpos_S16_p15)).trips = cnt N (base + k.val) (base + k.val + 128) := by rw [inner_trips (extractAt ![15] (k0_pay27 (F := F) u v) inpos_S16_p15) (by omega), hcnt]
  have h4 : k0_chk4 (extractAt ![15] (k0_pay27 (F := F) u v) inpos_S16_p15) := k0_chk4_all _
  rw [wp_assume_of 𝒱₀ (thr d L) none Set.univ h4]
  iapply (Scf.wp_for_bind _ _ _ _ _ _ _ _ _ (fun n acc => iprop(tbPts d L Tb ∗ chPts d L C ∗ ⌜acc = accs Tb C (base + k.val) (base + k.val + 128) n⌝))
    (fun k' acc => inner_trip d L Tb C hC k v18 v20 _ h4 _ _ (by omega) (by omega) h18 h20 (by omega) k' acc)) $$ [Ht Hc]
  · isplitl [Ht]; · iexact Ht
    isplitl [Hc]; · iexact Hc
    ipureintro
    rfl
  iintro %acc' ⟨Ht, Hc, %hacc⟩
  obtain rfl := hacc.trans (congrArg (accs (F := F) Tb C (base + k.val) (base + k.val + 128)) htr)
  unfold accs
  dsimp only
  rw [rem_loop]
  simp only [Prog.bind_ret]
  sl_exec
  have hsu : ∀ x, k0_pay28 (F := F) u x = scale (lenAt N (base + k.val)) := fun x => by rw [← hu x]; rfl
  have hsv : ∀ x, k0_pay29 (F := F) v x = scale (lenAt N (base + k.val + 128)) := fun x => by rw [← hv x]; rfl
  have m0 : mate k.val = k.val + 128 := if_pos hk
  have m1 : mate (k.val + 128) = k.val := by unfold mate; rw [if_neg (by omega)]; omega
  have hn0 : cnt N (base + k.val) (base + k.val + 128) = cnt N (base + k.val) (base + mate k.val) := by rw [m0, Nat.add_assoc]
  have hn1 : cnt N (base + k.val) (base + k.val + 128) = cnt N (base + (k.val + 128)) (base + mate (k.val + 128)) := by
    rw [m1, cnt_comm, Nat.add_assoc]
  rw [wp_ret]; imodintro
  isplitl [Ht]; · iexact Ht
  isplitl [Hc]; · iexact Hc
  isplitl [Hn]; · iexact Hn
  iexists _
  isplitl [Ho]; · iexact Ho
  ipureintro
  intro y hy
  refine (congrFun (View.read_whole (Val := Elt F) cc0_scratch3 _).symm y).trans ?_
  by_cases hyk : (y 0).val % 128 = k.val
  · refine View.read_writes_apply_of_pieces (Val := Elt F) (e := .f32) _ _ (halfOut (F := F) Tb C N base) _ ?_ y ?_
    · simp only [List.forall_mem_cons]
      refine ⟨?_, ?_, ?_, ?_, ?_, ?_, ?_, ?_, ?_, ?_, ?_, ?_, ?_, ?_, ?_, ?_, by simp⟩
      · exact part_eq Tb C N base _ _ _ 48 _ hi (.inr ⟨rfl, rfl⟩) (Nat.add_assoc ..) hn1 _ hsv _ (k0_off19_eq k) _
      · exact part_eq Tb C N base _ _ _ 48 _ hi (.inr ⟨rfl, rfl⟩) rfl hn0 _ hsu _ (k0_off18_eq k) _
      · exact part_eq Tb C N base _ _ _ 32 _ hi (.inr ⟨rfl, rfl⟩) (Nat.add_assoc ..) hn1 _ hsv _ (k0_off17_eq k) _
      · exact part_eq Tb C N base _ _ _ 32 _ hi (.inr ⟨rfl, rfl⟩) rfl hn0 _ hsu _ (k0_off16_eq k) _
      · exact part_eq Tb C N base _ _ _ 16 _ hi (.inr ⟨rfl, rfl⟩) (Nat.add_assoc ..) hn1 _ hsv _ (k0_off15_eq k) _
      · exact part_eq Tb C N base _ _ _ 16 _ hi (.inr ⟨rfl, rfl⟩) rfl hn0 _ hsu _ (k0_off14_eq k) _
      · exact part_eq Tb C N base _ _ _ 0 _ hi (.inr ⟨rfl, rfl⟩) (Nat.add_assoc ..) hn1 _ hsv _ (k0_off13_eq k) _
      · exact part_eq Tb C N base _ _ _ 0 _ hi (.inr ⟨rfl, rfl⟩) rfl hn0 _ hsu _ (k0_off12_eq k) _
      · exact part_eq Tb C N base _ _ _ 48 _ lo (.inl ⟨rfl, rfl, by decide⟩) (Nat.add_assoc ..) hn1 _ hsv _ (k0_off11_eq k) _
      · exact part_eq Tb C N base _ _ _ 48 _ lo (.inl ⟨rfl, rfl, by decide⟩) rfl hn0 _ hsu _ (k0_off10_eq k) _
      · exact part_eq Tb C N base _ _ _ 32 _ lo (.inl ⟨rfl, rfl, by decide⟩) (Nat.add_assoc ..) hn1 _ hsv _ (k0_off9_eq k) _
      · exact part_eq Tb C N base _ _ _ 32 _ lo (.inl ⟨rfl, rfl, by decide⟩) rfl hn0 _ hsu _ (k0_off8_eq k) _
      · exact part_eq Tb C N base _ _ _ 16 _ lo (.inl ⟨rfl, rfl, by decide⟩) (Nat.add_assoc ..) hn1 _ hsv _ (k0_off7_eq k) _
      · exact part_eq Tb C N base _ _ _ 16 _ lo (.inl ⟨rfl, rfl, by decide⟩) rfl hn0 _ hsu _ (k0_off6_eq k) _
      · exact part_eq Tb C N base _ _ _ 0 _ lo (.inl ⟨rfl, rfl, by decide⟩) (Nat.add_assoc ..) hn1 _ hsv _ (k0_off5_eq k) _
      · exact part_eq Tb C N base _ _ _ 0 _ lo (.inl ⟨rfl, rfl, by decide⟩) rfl hn0 _ hsu _ (k0_off4_eq k) _
    · by_contra hno
      simp only [not_exists, not_and] at hno
      have hcol : (y 1).val < 128 := (y 1).isLt
      have hrow : (y 0).val < 256 := (y 0).isLt
      simp only [List.forall_mem_cons,
        mem_part _ _ _ (k0_off4_eq k), mem_part _ _ _ (k0_off5_eq k), mem_part _ _ _ (k0_off6_eq k),
        mem_part _ _ _ (k0_off7_eq k), mem_part _ _ _ (k0_off8_eq k), mem_part _ _ _ (k0_off9_eq k),
        mem_part _ _ _ (k0_off10_eq k), mem_part _ _ _ (k0_off11_eq k), mem_part _ _ _ (k0_off12_eq k),
        mem_part _ _ _ (k0_off13_eq k), mem_part _ _ _ (k0_off14_eq k), mem_part _ _ _ (k0_off15_eq k),
        mem_part _ _ _ (k0_off16_eq k), mem_part _ _ _ (k0_off17_eq k), mem_part _ _ _ (k0_off18_eq k),
        mem_part _ _ _ (k0_off19_eq k)] at hno
      clear m0 m1 hn0 hn1
      omega
  · refine (View.read_writes_apply_of_forall_not_mem _ _ y _ ?_).trans ?_
    · simp only [List.forall_mem_cons,
        mem_part _ _ _ (k0_off4_eq k), mem_part _ _ _ (k0_off5_eq k), mem_part _ _ _ (k0_off6_eq k),
        mem_part _ _ _ (k0_off7_eq k), mem_part _ _ _ (k0_off8_eq k), mem_part _ _ _ (k0_off9_eq k),
        mem_part _ _ _ (k0_off10_eq k), mem_part _ _ _ (k0_off11_eq k), mem_part _ _ _ (k0_off12_eq k),
        mem_part _ _ _ (k0_off13_eq k), mem_part _ _ _ (k0_off14_eq k), mem_part _ _ _ (k0_off15_eq k),
        mem_part _ _ _ (k0_off16_eq k), mem_part _ _ _ (k0_off17_eq k), mem_part _ _ _ (k0_off18_eq k),
        mem_part _ _ _ (k0_off19_eq k)]
      refine ⟨?_, ?_, ?_, ?_, ?_, ?_, ?_, ?_, ?_, ?_, ?_, ?_, ?_, ?_, ?_, ?_, by simp⟩ <;> (clear m0 m1 hn0 hn1; omega)
    · exact hg y (by omega)

end Cert.Proof.Pool

end
-- ==== Proof.Tile.lean ====
/-
  The whole body of the pooling kernel on one vector subcore: the table, its 512 words and their lengths fetched, the
  masking loop, and twice the loop over pairs followed by the copy of 256 rows out.
-/
module

public import proofs.«01_k».proof.Proof.Pair

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)

local notation "𝕄" => MM F

/-! ## The values of a block of 512 words -/

/-- The characters of block `b` of 512 words; -/
def blockC (ci : IVec S16384x16 32) (b : ℕ) : IVec S512x16 32 := fun y => ci (ix2 (Fin.ofNat 16384 (512 * b + (y 0).val)) (Fin.ofNat 16 (y 1).val))
/-- their lengths. -/
def blockN (ln : IVec S16384 32) (b : ℕ) : IVec S512 32 := fun y => ln (ix1 (Fin.ofNat 16384 (512 * b + (y 0).val)))

/-- The 256 rows of the result for half `h` of block `b`. -/
def half (Tb : IVec S512x64 32) (ci : IVec S16384x16 32) (ln : IVec S16384 32) (b h : ℕ) : FVec F S256x128 .f32 :=
  halfOut Tb (cleaned (blockC ci b) (blockN ln b)) (blockN ln b) (256 * h)

/-- The whole result. -/
def pooled (Tb : IVec S512x64 32) (ci : IVec S16384x16 32) (ln : IVec S16384 32) : FVec F S16384x128 .f32 := fun y =>
  half Tb ci ln ((y 0).val / 512) ((y 0).val % 512 / 256) (ix2 (Fin.ofNat 256 ((y 0).val % 256)) (Fin.ofNat 128 (y 1).val))

/-- The block of the subcore at `L`. -/
abbrev blk (L : grid0.Coords) : ℕ := 2 * (L 1).val + (L 0).val

omit [FloatOps F] in
/-- There are 32 blocks of words, one a subcore. -/
theorem blk_lt : blk L < 32 := by
  have h0 : (L 0).val < 2 := (L 0).isLt
  have h1 : (L 1).val < 16 := (L 1).isLt
  unfold blk; omega

/-! ## The rows of a half -/

/-- The 64 halves divide the result's rows. -/
theorem odiv : 64 ∣ S16384x128.size 0 := ⟨256, rfl⟩
/-- Block `j` of 256 rows of the result. -/
abbrev orow (j : Fin 64) : Rect S16384x128 := Rect.part (s := S16384x128) (a₀ := 0) odiv j
/-- The elements of block `j` of the result. -/
abbrev oRowSet (j : Fin 64) : Finset S16384x128.Idx := ((ouV).view.slice (orow j)).set
/-- Half `h` of the rows of the subcore at `(c, s)`, among the 64. -/
def rowIx (c : Fin 2) (s : Fin 16) (h : Fin 2) : Fin 64 := ⟨4 * s.val + 2 * c.val + h.val, by omega⟩

/-- The core of a grid point, -/
abbrev c2 (L : grid0.Coords) : Fin 2 := L 0
/-- and its subcore. -/
abbrev s16 (L : grid0.Coords) : Fin 16 := L 1

/-- The rows that the copy out of half `h` names, -/
abbrev orowK (h : Fin 2) : Rect S16384x128 := Rect.unit (s := S16384x128) (k0_off20 L (BitVec.ofNat 32 (256 * h.val))) S256x128.size (k0_off20_inb L h)
/-- and the part of the result that they are. -/
abbrev oRowK (h : Fin 2) : Memref sig .scVector .hbm S256x128 .f32 := (ouV).slice (orowK L h) (fun _ => rfl)

omit [FloatOps F] in
/-- The rows a copy out names are the block of 256 rows of its half. -/
theorem orowK_eq (h : Fin 2) : orowK L h = orow (rowIx (c2 L) (s16 L) h) := by
  unfold orowK orow Rect.part Rect.block
  congr 1 <;> funext a
  · rw [k0_off20_eq]
    match a with
    | 0 =>
      show 1024 * (L 1).val + 512 * (L 0).val + 256 * h.val = (4 * (L 1).val + 2 * (L 0).val + h.val) * (16384 / 64)
      omega
    | 1 => simp [Shape.partIx, Shape.partSize]
  · match a with
    | 0 => simp [Shape.partSize]
    | 1 => simp [Shape.partSize]

omit [FloatOps F] in
/-- The elements the copy out of half `h` writes are its block's. -/
theorem set_oRowK (h : Fin 2) : (oRowK L h).view.set = oRowSet (rowIx (c2 L) (s16 L) h) := by
  show ((ouV).view.slice (orowK L h)).set = ((ouV).view.slice (orow (rowIx (c2 L) (s16 L) h))).set
  rw [orowK_eq]

/-! ## The operands as the subcore holds them -/

/-- Where the characters lie, one row a word; -/
abbrev ciLoc (d : Dev nD) : Loc nD τ sig := (SparseCore.T d).loc main_v0
/-- the lengths; -/
abbrev lnLoc (d : Dev nD) : Loc nD τ sig := (SparseCore.T d).loc main_v1
/-- the table; -/
abbrev pkLoc (d : Dev nD) : Loc nD τ sig := (SparseCore.T d).loc main_arg2
/-- the result. -/
abbrev ouLoc (d : Dev nD) : Loc nD τ sig := (SparseCore.T d).loc main_v2

/-- A half's rows of the result, at `f`. -/
abbrev oRowPts (j : Fin 64) (f : Vec F S16384x128 .f32) : sProp 𝕄 := ouLoc d ↦[oRowSet j]{fullShare} f

omit [FloatOps F] in
/-- Holding what the copy out of half `h` writes is holding that half's rows of the result; -/
theorem pts_oRowK (h : Fin 2) (f : Vec F S16384x128 .f32) :
    ((oRowK L h).view.loc (thr d L) ↦[(oRowK L h).view.set]{fullShare} f : sProp 𝕄) = oRowPts d (rowIx (c2 L) (s16 L) h) f := by
  rw [set_oRowK]

/-- The two halves' rows as the kernel's own copies name them. -/
abbrev oRowA : Memref sig .scVector .hbm S256x128 .f32 :=
  (ouV).slice (Rect.unit (s := S16384x128) (k0_off20 L 0#32) S256x128.size (k0_off20_inb L 0)) (fun _ => rfl)
/-- The second half's rows as the kernel's own copy names them. -/
abbrev oRowB : Memref sig .scVector .hbm S256x128 .f32 :=
  (ouV).slice (Rect.unit (s := S16384x128) (k0_off20 L 256#32) S256x128.size (k0_off20_inb L 1)) (fun _ => rfl)

omit [FloatOps F] in
/-- so for the first half, -/
theorem pts_oRowA (f : Vec F S16384x128 .f32) :
    ((oRowA L).view.loc (thr d L) ↦[(oRowA L).view.set]{fullShare} f : sProp 𝕄) = oRowPts d (rowIx (c2 L) (s16 L) 0) f :=
  pts_oRowK d L 0 f
omit [FloatOps F] in
/-- and for the second. -/
theorem pts_oRowB (f : Vec F S16384x128 .f32) :
    ((oRowB L).view.loc (thr d L) ↦[(oRowB L).view.set]{fullShare} f : sProp 𝕄) = oRowPts d (rowIx (c2 L) (s16 L) 1) f :=
  pts_oRowK d L 1 f

/-- A copy's counter on the subcore at `L`. -/
abbrev sCell (d : Dev nD) (L : grid0.Coords) (s : DmaSems sig S_) : GSem nD τ sig := (thr d L, .dma s.sem)

omit [FloatOps F] in
/-- The five counters the kernel's copies use are among the subcore's own. -/
theorem ownSems0_V :
    (ownSems0 (thr d L) : sProp 𝕄)
      = iprop(semVal (sCell d L cc0_scoped0) 0 ∗ semVal (sCell d L cc0_scoped1) 0 ∗ semVal (sCell d L cc0_scoped2) 0
          ∗ semVal (sCell d L cc0_scoped3) 0 ∗ semVal (sCell d L cc0_scoped4) 0
          ∗ bigSep ((((((ownCells (thr d L)).erase (sCell d L cc0_scoped0)).erase (sCell d L cc0_scoped1)).erase (sCell d L cc0_scoped2)).erase
              (sCell d L cc0_scoped3)).erase (sCell d L cc0_scoped4)) fun g => semVal g 0) := by
  have own : ∀ s : DmaSems sig S_, (SemLoc.dma s.sem : SemLoc sig).isScoped .scVector = true → sCell d L s ∈ ownCells (thr d L) := fun s h =>
    mem_ownCells.mpr ⟨rfl, h⟩
  have ne : ∀ s t : DmaSems sig S_, (SemLoc.dma s.sem : SemLoc sig) ≠ .dma t.sem → sCell d L s ≠ sCell d L t := fun s t h e =>
    h (congrArg Prod.snd e)
  unfold SparseCore.Cfg.ownSems0
  rw [SparseCore.bigSep_erase' (own cc0_scoped0 (by decide)),
    SparseCore.bigSep_erase' (Finset.mem_erase.mpr ⟨ne cc0_scoped1 cc0_scoped0 (by decide), own cc0_scoped1 (by decide)⟩),
    SparseCore.bigSep_erase' (Finset.mem_erase.mpr ⟨ne cc0_scoped2 cc0_scoped1 (by decide), Finset.mem_erase.mpr
      ⟨ne cc0_scoped2 cc0_scoped0 (by decide), own cc0_scoped2 (by decide)⟩⟩),
    SparseCore.bigSep_erase' (Finset.mem_erase.mpr ⟨ne cc0_scoped3 cc0_scoped2 (by decide), Finset.mem_erase.mpr
      ⟨ne cc0_scoped3 cc0_scoped1 (by decide), Finset.mem_erase.mpr ⟨ne cc0_scoped3 cc0_scoped0 (by decide), own cc0_scoped3 (by decide)⟩⟩⟩),
    SparseCore.bigSep_erase' (Finset.mem_erase.mpr ⟨ne cc0_scoped4 cc0_scoped3 (by decide), Finset.mem_erase.mpr
      ⟨ne cc0_scoped4 cc0_scoped2 (by decide), Finset.mem_erase.mpr ⟨ne cc0_scoped4 cc0_scoped1 (by decide), Finset.mem_erase.mpr
        ⟨ne cc0_scoped4 cc0_scoped0 (by decide), own cc0_scoped4 (by decide)⟩⟩⟩⟩)]

omit [FloatOps F] in
/-- The kernel's four scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have own : ∀ b : Ref sig .scVector, ((Proc.scVector (cV L) (jV L)).devRef b).owner = .proc (.scVector (cV L) (jV L)) →
      (Proc.scVector (cV L) (jV L)).devRef b ∈ ownRefs (τ := τ) (.scVector (cV L) (jV L)) := fun b h =>
    SparseCore.Cfg.mem_ownRefs_of_owner (p := Proc.scVector (cV L) (jV L)) (b := (Proc.scVector (cV L) (jV L)).devRef b) h
  have ne : ∀ a b : Ref sig .scVector, a ≠ b → (Proc.scVector (cV L) (jV L)).devRef a ≠ (Proc.scVector (cV L) (jV L)).devRef b := fun a b h e =>
    h (Proc.devRef_injective _ e)
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide), Finset.mem_erase.mpr
      ⟨ne cc0_scratch2 cc0_scratch0 (by decide), own cc0_scratch2 rfl⟩⟩),
    SparseCore.bigSep_erase' (Finset.mem_erase.mpr ⟨ne cc0_scratch3 cc0_scratch2 (by decide), Finset.mem_erase.mpr
      ⟨ne cc0_scratch3 cc0_scratch1 (by decide), Finset.mem_erase.mpr ⟨ne cc0_scratch3 cc0_scratch0 (by decide), own cc0_scratch3 rfl⟩⟩⟩)]

/-! ## The body -/

/-- The kernel on its whole operands. -/
abbrev tileProg := cc0_k (F := F) L ciV (Memref.isWhole_whole _) lnV (Memref.isWhole_whole _) pkV (Memref.isWhole_whole _)
    ouV (Memref.isWhole_whole _) tbV (Memref.isWhole_whole _) chV (Memref.isWhole_whole _) leV (Memref.isWhole_whole _)
    obV (Memref.isWhole_whole _) cc0_scoped0 cc0_scoped1 cc0_scoped2 cc0_scoped3 cc0_scoped4

/-- What a subcore reads: a share `q` of the characters, of the lengths and of the table. -/
abbrev reads (q : PosShare TreeShare) (ci : Vec F S16384x16 .i32) (ln : Vec F S16384 .i32) (Tb : Vec F S512x64 .i32) : sProp 𝕄 :=
  iprop((ciLoc d ↦{q} ci) ∗ (lnLoc d ↦{q} ln) ∗ pkLoc d ↦{q} Tb)

/-! ## What the copies land -/

/-- The subcore's own rows of the characters, -/
abbrev ciRowK : Memref sig .scVector .hbm S512x16 .i32 := (ciV).slice (Rect.unit (s := S16384x16) (k0_off1 L) S512x16.size (k0_off1_inb L)) (fun _ => rfl)
/-- and of the lengths. -/
abbrev lnRowK : Memref sig .scVector .hbm S512 .i32 := (lnV).slice (Rect.unit (s := S16384) (k0_off2 L) S512.size (k0_off2_inb L)) (fun _ => rfl)

omit [FloatOps F] in
/-- The table whole. -/
theorem land_tab (f Tb : Vec F S512x64 .i32) : View.write (Elt F) (tbV).view f ((pkV).view.read (Elt F) Tb) Finset.univ = Tb := by
  rw [View.write_whole_univ]
  exact View.read_whole _ _

omit [FloatOps F] in
/-- The subcore's words' characters. -/
theorem land_chr (f : Vec F S512x16 .i32) (ci : Vec F S16384x16 .i32) :
    View.write (Elt F) (chV).view f ((ciRowK L).view.read (Elt F) ci) Finset.univ = blockC ci (blk L) := by
  have hb := blk_lt L
  rw [View.write_whole_univ]
  funext y
  have h0 : (y 0).val < 512 := (y 0).isLt
  have h1 : (y 1).val < 16 := (y 1).isLt
  refine ((View.read_apply _ _).trans (cast_eq _ _)).trans (congrArg ci (funext fun a => Fin.ext ?_))
  refine (Rect.emb_apply _ _ _).trans ?_
  show k0_off1 L a + 1 * (y a).val = _
  rw [k0_off1_eq]
  match a with
  | 0 =>
    show 1024 * (L 1).val + 512 * (L 0).val + 1 * (y 0).val = (512 * blk L + (y 0).val) % 16384
    unfold blk at *; omega
  | 1 =>
    show 0 + 1 * (y 1).val = (y 1).val % 16
    omega

omit [FloatOps F] in
/-- Their lengths. -/
theorem land_len (f : Vec F S512 .i32) (ln : Vec F S16384 .i32) :
    View.write (Elt F) (leV).view f ((lnRowK L).view.read (Elt F) ln) Finset.univ = blockN ln (blk L) := by
  have hb := blk_lt L
  rw [View.write_whole_univ]
  funext y
  have h0 : (y 0).val < 512 := (y 0).isLt
  refine ((View.read_apply _ _).trans (cast_eq _ _)).trans (congrArg ln (funext fun a => Fin.ext ?_))
  refine (Rect.emb_apply _ _ _).trans ?_
  show k0_off2 L a + 1 * (y a).val = _
  rw [k0_off2_eq]
  match a with
  | 0 =>
    show 1024 * (L 1).val + 512 * (L 0).val + 1 * (y 0).val = (512 * blk L + (y 0).val) % 16384
    unfold blk at *; omega

/-- Contents that read, on a half's rows, as that half are the result's there. -/
theorem land_out (h : Fin 2) (f : Vec F S16384x128 .f32) (Tb : Vec F S512x64 .i32) (ci : Vec F S16384x16 .i32) (ln : Vec F S16384 .i32)
    (hf : (oRowK L h).view.read (Elt F) f = half Tb ci ln (blk L) h.val) :
    ∀ i ∈ (oRowK L h).view.set, f i = pooled Tb ci ln i := by
  intro i hi
  obtain ⟨y, -, rfl⟩ := Finset.mem_map.1 hi
  refine (((View.read_apply (v := (oRowK L h).view) f y).trans (cast_eq _ _)).symm).trans ((congrFun hf y).trans ?_)
  have hb := blk_lt L
  have hh : h.val < 2 := h.isLt
  have y0 : (y 0).val < 256 := (y 0).isLt
  have y1 : (y 1).val < 128 := (y 1).isLt
  have e0 : (((oRowK L h).view.emb y) 0).val = 512 * blk L + 256 * h.val + (y 0).val := by
    refine (Rect.emb_apply _ _ _).trans ?_
    show k0_off20 L (BitVec.ofNat 32 (256 * h.val)) 0 + 1 * (y 0).val = _
    rw [k0_off20_eq]
    show 1024 * (L 1).val + 512 * (L 0).val + 256 * h.val + 1 * (y 0).val = _
    unfold blk; omega
  have e1 : (((oRowK L h).view.emb y) 1).val = (y 1).val := by
    refine (Rect.emb_apply _ _ _).trans ?_
    show k0_off20 L (BitVec.ofNat 32 (256 * h.val)) 1 + 1 * (y 1).val = _
    rw [k0_off20_eq]
    show 0 + 1 * (y 1).val = _
    omega
  unfold pooled
  rw [e0, e1, show (512 * blk L + 256 * h.val + (y 0).val) / 512 = blk L by omega,
    show (512 * blk L + 256 * h.val + (y 0).val) % 512 / 256 = h.val by omega,
    show (512 * blk L + 256 * h.val + (y 0).val) % 256 = (y 0).val by omega]
  refine congrArg _ (funext fun a => Fin.ext ?_)
  match a with
  | 0 => exact (Nat.mod_eq_of_lt y0).symm
  | 1 => exact (Nat.mod_eq_of_lt y1).symm

/-- A masked character is a table row's number when the character is. -/
theorem cleaned_lt (C : IVec S512x16 32) (N : IVec S512 32) (hC : ∀ i, (C i).toNat < 512) (i : S512x16.Idx) : (cleaned C N i).toNat < 512 := by
  unfold cleaned
  split
  · exact hC i
  · exact Nat.zero_lt_of_lt (hC i)

/-- After its last trip the masking loop has masked every word. -/
theorem clean_done (C : IVec S512x16 32) (N : IVec S512 32) :
    (fun y : S512x16.Idx => if (y 0).val < k0_t1_loop.trips then cleaned C N y else C y) = cleaned C N :=
  funext fun y => if_pos (show (y 0).val < k0_t1_loop.trips from lt_of_lt_of_eq (show (y 0).val < 512 from (y 0).isLt) (by decide))

/-- After its last trip the loop over pairs has stored the whole half. -/
theorem pair_done (g : Vec F S256x128 .f32) (Tb : IVec S512x64 32) (C : IVec S512x16 32) (N : IVec S512 32) (base : ℕ)
    (h : ∀ y : S256x128.Idx, (y 0).val % 128 < k0_t2_loop.trips → g y = halfOut Tb C N base y) : g = halfOut Tb C N base :=
  funext fun y => h y (lt_of_lt_of_eq (Nat.mod_lt _ (by decide)) (by decide : 128 = k0_t2_loop.trips))

set_option maxHeartbeats 4000000 in
/-- The whole task of one subcore: from its shares of the operands and its own rows of the result, it ends with those
    rows holding the pooled words, every counter back at zero and nothing owed beyond what it owed before. -/
theorem tile_body (hF : (K (F := F)).Facts) (q : PosShare TreeShare) (ci : Vec F S16384x16 .i32) (ln : Vec F S16384 .i32) (Tb : Vec F S512x64 .i32)
    (f₀ : Vec F S16384x128 .f32) (hci : ∀ i, (ci i).toNat < 512) (hln : ∀ i, (ln i).toNat ≤ 16)
    (O : CellTallies nD τ sig (HIx 1)) (W : Waits sig (HIx 1)) (hO : ∀ g, O g none = 0) :
    iprop(levAts (K (F := F)).L (K (F := F)).lev ∗ emp
        ∗ (reads d q ci ln Tb ∗ oRowPts d (rowIx (c2 L) (s16 L) 0) f₀ ∗ oRowPts d (rowIx (c2 L) (s16 L) 1) f₀)
        ∗ scopedBufs (thr d L) ∗ scopedSems0 (thr d L) ∗ owes (thr d L) O W)
      ⊢ wp frame (wpE (defs₀ (F := F)) 𝒱₀ (thr d L) none) Set.univ (tileProg L)
          fun _ => iprop((reads d q ci ln Tb ∗ oRowPts d (rowIx (c2 L) (s16 L) 0) (pooled Tb ci ln) ∗ oRowPts d (rowIx (c2 L) (s16 L) 1) (pooled Tb ci ln))
            ∗ scopedBufs (thr d L) ∗ scopedSems0 (thr d L)
            ∗ ∃ W', ⌜∀ p ∈ W', p ∈ W ∨ p.2 = none⌝ ∗ owes (thr d L) O W') := by
  unfold tileProg
  simp only [cc0_k_eq_skeleton]; unfold cc0_k_skel
  simp only [k0_part9_eq_skeleton]; unfold k0_part9_skel
  simp only [bind_assoc, pure_bind]
  rw [(K (F := F)).scopedBufs_V hF d (cV L) (jV L), SparseCore.Cfg.scopedSems0_V (Val := Elt F) d (cV L) (jV L), ownSems0_V, ownBufs_V]
  iintro ⟨#Hlv, -, ⟨⟨Hci, Hln, Hpk⟩, Ho0, Ho1⟩, ⟨⟨%f0, Hs0⟩, ⟨%f1, Hs1⟩, ⟨%f2, Hs2⟩, ⟨%f3, Hs3⟩, Hbufs⟩, ⟨HsemA, HsemB, HsemC, HsemD, HsemE, Hsems⟩, HO⟩
  ihave Hmw := (show levAts (K (F := F)).L (K (F := F)).lev ⊢ Transfers.MayWaits (thr d L) (default : HIx 1) O from
    (K (F := F)).mayWaits_none (thr := thr d L) hO) $$ Hlv
  ihave Hci' := (Entails.of_eq (show (ciLoc d ↦{q} ci : sProp 𝕄) = (ciV).view.loc (thr d L) ↦{q} ci from rfl)) $$ Hci
  ihave Hln' := (Entails.of_eq (show (lnLoc d ↦{q} ln : sProp 𝕄) = (lnV).view.loc (thr d L) ↦{q} ln from rfl)) $$ Hln
  ihave Hpk' := (Entails.of_eq (show (pkLoc d ↦{q} Tb : sProp 𝕄) = (pkV).view.loc (thr d L) ↦{q} Tb from rfl)) $$ Hpk
  ihave Ho0' := (Entails.of_eq (pts_oRowA (F := F) d L f₀).symm) $$ Ho0
  ihave Ho1' := (Entails.of_eq (pts_oRowB (F := F) d L f₀).symm) $$ Ho1
  ihave Hs0' := (Entails.of_eq (show ((thr d L).loc cc0_scratch0 ↦{fullShare} f0 : sProp 𝕄) = (tbV).view.loc (thr d L) ↦{fullShare} f0 from rfl)) $$ Hs0
  ihave Hs1' := (Entails.of_eq (show ((thr d L).loc cc0_scratch1 ↦{fullShare} f1 : sProp 𝕄) = (chV).view.loc (thr d L) ↦{fullShare} f1 from rfl)) $$ Hs1
  ihave Hs2' := (Entails.of_eq (show ((thr d L).loc cc0_scratch2 ↦{fullShare} f2 : sProp 𝕄) = (leV).view.loc (thr d L) ↦{fullShare} f2 from rfl)) $$ Hs2
  ihave Hs3' := (Entails.of_eq (show ((thr d L).loc cc0_scratch3 ↦{fullShare} f3 : sProp 𝕄) = (obV).view.loc (thr d L) ↦{fullShare} f3 from rfl)) $$ Hs3
  sl_exec
  rw [show View.write (Elt F) (tbV).view f0 (tile_body.sl.dma0 Tb) Finset.univ = Tb from land_tab f0 Tb,
    show View.write (Elt F) (chV).view f1 (tile_body.sl.dma0_1 L ci) Finset.univ = blockC ci (blk L) from land_chr L f1 ci,
    show View.write (Elt F) (leV).view f2 (tile_body.sl.dma0_2 L ln) Finset.univ = blockN ln (blk L) from land_len L f2 ln]
  iapply (Scf.wp_for_bind _ _ _ _ _ _ _ _ _ (cleanInv d L (blockC ci (blk L)) (blockN ln (blk L)))
    (fun k acc => clean_trip d L (blockC ci (blk L)) (blockN ln (blk L)) k acc)) $$ [Hs1' Hs2']
  · unfold cleanInv
    isplitl [Hs2']; · iexact Hs2'
    iexact Hs1'
  iintro %_ HI
  unfold cleanInv
  icases HI with ⟨Hs2', Hs1'⟩
  ihave Hs1' := (Entails.of_eq (congrArg (chPts d L) (clean_done (blockC ci (blk L)) (blockN ln (blk L))))) $$ Hs1'
  have hC := cleaned_lt (blockC ci (blk L)) (blockN ln (blk L)) (fun i => hci _)
  iapply (Scf.wp_for_bind _ _ _ _ _ _ _ _ _ (pairInv d L Tb (cleaned (blockC ci (blk L)) (blockN ln (blk L))) (blockN ln (blk L)) 0)
    (fun k acc => pair_trip d L Tb _ _ hC (fun i => hln _) 0#32 0 rfl (Nat.zero_le _) k acc)) $$ [Hs0' Hs1' Hs2' Hs3']
  · unfold pairInv
    isplitl [Hs0']; · iexact Hs0'
    isplitl [Hs1']; · iexact Hs1'
    isplitl [Hs2']; · iexact Hs2'
    iexists _; isplitl [Hs3']; · iexact Hs3'
    ipureintro; exact fun y h => absurd h (Nat.not_lt_zero _)
  iintro %_ HI
  unfold pairInv
  icases HI with ⟨Hs0', Hs1', Hs2', ⟨%g, Hs3', %hg⟩⟩
  obtain rfl := pair_done g _ _ _ _ hg
  sl_exec
  ihave Ho0' := (Entails.of_eq (pointsTo_congr (land_out L 0 _ Tb ci ln ((View.read_writes_whole _ _ _).trans
    (show tile_body.sl.dma0_3 L ci ln Tb = half Tb ci ln (blk L) 0 from View.read_whole (Val := Elt F) cc0_scratch3 (half Tb ci ln (blk L) 0)))))) $$ Ho0'
  ihave Ho0 := (Entails.of_eq (pts_oRowA (F := F) d L _)) $$ Ho0'
  iapply (Scf.wp_for_bind _ _ _ _ _ _ _ _ _ (pairInv d L Tb (cleaned (blockC ci (blk L)) (blockN ln (blk L))) (blockN ln (blk L)) 256)
    (fun k acc => (pair_trip d L Tb _ _ hC (fun i => hln _) 256#32 256 rfl le_rfl k acc).trans
      (Entails.of_eq (congrArg (fun p => wp _ _ _ p _) (t5_eq d L k).symm)))) $$ [Hs0' Hs1' Hs2' Hs3']
  · unfold pairInv
    isplitl [Hs0']; · iexact Hs0'
    isplitl [Hs1']; · iexact Hs1'
    isplitl [Hs2']; · iexact Hs2'
    iexists _; isplitl [Hs3']; · iexact Hs3'
    ipureintro; exact fun y h => absurd h (Nat.not_lt_zero _)
  iintro %_ HI
  unfold pairInv
  icases HI with ⟨Hs0', Hs1', Hs2', ⟨%g, Hs3', %hg'⟩⟩
  obtain rfl := pair_done g _ _ _ _ hg'
  sl_exec
  sl_step
  ihave Ho1' := (Entails.of_eq (pointsTo_congr (land_out L 1 _ Tb ci ln ((View.read_writes_whole _ _ _).trans
    (show tile_body.sl.dma0_4 L ci ln Tb = half Tb ci ln (blk L) 1 from View.read_whole (Val := Elt F) cc0_scratch3 (half Tb ci ln (blk L) 1)))))) $$ Ho1'
  isplitl [Hci' Hln' Hpk' Ho0 Ho1']
  · isplitl [Hci' Hln' Hpk']
    · isplitl [Hci']; · iexact Hci'
      isplitl [Hln']; · iexact Hln'
      iexact Hpk'
    isplitl [Ho0]; · iexact Ho0
    iapply (Entails.of_eq (pts_oRowB (F := F) d L _)); iexact Ho1'
  isplitl [Hs0' Hs1' Hs2' Hs3' Hbufs]
  · isplitl [Hs0']; · iexists _; iexact Hs0'
    isplitl [Hs1']; · iexists _; iexact Hs1'
    isplitl [Hs2']; · iexists _; iexact Hs2'
    isplitl [Hs3']; · iexists _; iexact Hs3'
    iexact Hbufs
  isplitl [HsemA HsemB HsemC HsemD HsemE Hsems]
  · isplitl [HsemA]; · iexact HsemA
    isplitl [HsemB]; · iexact HsemB
    isplitl [HsemC]; · iexact HsemC
    isplitl [HsemD]; · iexact HsemD
    isplitl [HsemE]; · iexact HsemE
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Pool

end
-- ==== Proof.Launch.lean ====
/-
  The launch of the pooling kernel on all 32 vector subcores: what the call hands each core and each subcore, and the
  whole program's run with the values it leaves.
-/
module

public import proofs.«01_k».proof.Proof.Tile

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MM F

/-- The launch's own counters are where the launch needs them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Shares -/

/-- Part `i` of the `2 ^ n` equal parts of a share. -/
def shareOf : ℕ → PosShare TreeShare → ℕ → PosShare TreeShare
  | 0, q, _ => q
  | n + 1, q, i => shareOf n (if i % 2 = 0 then q.left else q.right) (i / 2)

/-- What splits between a share's halves splits among its `2 ^ n` parts. -/
theorem split_shares (Φ : PosShare TreeShare → sProp 𝕄) (hΦ : ∀ q, Φ q = iprop(Φ q.left ∗ Φ q.right)) :
    ∀ (n : ℕ) (q : PosShare TreeShare), Φ q = bigSep Finset.univ fun i : Fin (2 ^ n) => Φ (shareOf n q i.val)
  | 0, q => (bigSep_univ_of_subsingleton (0 : Fin 1) (Φ := fun i : Fin (2 ^ 0) => Φ (shareOf 0 q i.val))).symm
  | n + 1, q => by
    refine Eq.trans ?_ (bigSep_univ_equiv (finProdFinEquiv (m := 2 ^ n) (n := 2)) (fun i : Fin (2 ^ (n + 1)) => Φ (shareOf (n + 1) q i.val))).symm
    rw [bigSep_univ_prod, bigSep_congr (fun a _ => bigSep_univ_two _), bigSep_sep', hΦ q, split_shares Φ hΦ n q.left, split_shares Φ hΦ n q.right]
    congr 1 <;> refine bigSep_congr fun a _ => congrArg Φ ?_
    · show shareOf n q.left a.val = shareOf n (if (0 + 2 * a.val) % 2 = 0 then q.left else q.right) ((0 + 2 * a.val) / 2)
      rw [if_pos (by omega), show (0 + 2 * a.val) / 2 = a.val by omega]
    · show shareOf n q.right a.val = shareOf n (if (1 + 2 * a.val) % 2 = 0 then q.left else q.right) ((1 + 2 * a.val) / 2)
      rw [if_neg (by omega), show (1 + 2 * a.val) / 2 = a.val by omega]

/-- What a subcore reads splits between a share's halves. -/
theorem reads_halves (d : Dev nD) (q : PosShare TreeShare) (ci : Vec F S16384x16 .i32) (ln : Vec F S16384 .i32) (Tb : Vec F S512x64 .i32) :
    (reads d q ci ln Tb : sProp 𝕄) = iprop(reads d q.left ci ln Tb ∗ reads d q.right ci ln Tb) := by
  have h : ∀ {ℓ : Loc nD τ sig} (f : Buf (Elt F) ℓ), (ℓ ↦{q} f : sProp 𝕄) = iprop((ℓ ↦{q.left} f) ∗ ℓ ↦{q.right} f) := fun f =>
    BI.Entails.antisymm (pointsTo_share (PosShare.mem_left_op_right q)).1 (pointsTo_share (PosShare.mem_left_op_right q)).2
  unfold reads
  rw [h, h, h]
  refine BI.Entails.antisymm ?_ ?_ <;> change BIBase.Entails (PROP := sProp 𝕄) _ _
  · iintro ⟨⟨A, A'⟩, ⟨B, B'⟩, C, C'⟩
    isplitl [A B C]
    · isplitl [A]; · iexact A
      isplitl [B] <;> iassumption
    · isplitl [A']; · iexact A'
      isplitl [B'] <;> iassumption
  · iintro ⟨⟨A, B, C⟩, A', B', C'⟩
    isplitl [A A']; · isplitl [A] <;> iassumption
    isplitl [B B']; · isplitl [B] <;> iassumption
    isplitl [C] <;> iassumption

/-- The share of core `c`, and of its subcore `s`. -/
abbrev coreQ (c : Fin 2) : PosShare TreeShare := shareOf 1 fullShare c.val
/-- The share of subcore `s` of core `c`. -/
abbrev tileQ (c : Fin 2) (s : Fin 16) : PosShare TreeShare := shareOf 4 (coreQ c) s.val

/-! ## Rows -/

/-- The 64 halves, by core, subcore and half. -/
def halves : Fin 2 × Fin 16 × Fin 2 ≃ Fin 64 where
  toFun t := rowIx t.1 t.2.1 t.2.2
  invFun j := (⟨j.val / 2 % 2, by omega⟩, ⟨j.val / 4, by omega⟩, ⟨j.val % 2, by omega⟩)
  left_inv t := by
    refine Prod.ext (Fin.ext ?_) (Prod.ext (Fin.ext ?_) (Fin.ext ?_)) <;> simp only [rowIx] <;> omega
  right_inv j := Fin.ext (by simp only [rowIx]; omega)

/-- The elements of a block of rows, as the whole result counts them. -/
theorem oRowSet_eq (j : Fin 64) : oRowSet j = (orow j).set := by
  show ((View.whole (main_v2_scv : Ref sig .scVector)).slice (orow j)).set = _
  rw [View.set_slice]; exact Finset.map_refl

/-- The two halves of the subcore `(c, s)`. -/
abbrev tileRows (d : Dev nD) (f : Vec F S16384x128 .f32) (c : Fin 2) (s : Fin 16) : sProp 𝕄 :=
  iprop(oRowPts d (rowIx c s 0) f ∗ oRowPts d (rowIx c s 1) f)

/-- The result whole is its halves, by core and subcore. -/
theorem rows_split (d : Dev nD) (f : Vec F S16384x128 .f32) :
    (ouLoc d ↦{fullShare} f : sProp 𝕄) = bigSep Finset.univ fun c : Fin 2 => bigSep Finset.univ fun s : Fin 16 => tileRows d f c s := by
  have hd : ∀ i ∈ (Finset.univ : Finset (Fin 64)), ∀ j ∈ (Finset.univ : Finset (Fin 64)), i ≠ j → Disjoint (oRowSet i) (oRowSet j) :=
    fun i _ j _ h => by rw [oRowSet_eq, oRowSet_eq]; exact Rect.part_disjoint odiv h
  have hc : (Finset.univ : Finset (Fin 64)).biUnion oRowSet = Finset.univ :=
    (Finset.biUnion_congr rfl fun i _ => oRowSet_eq i).trans (Rect.biUnion_part odiv)
  have h := pointsTo_biUnion (q := fullShare) (f := f) (Val := Elt F) (Ix := HIx 1) (Name := ℕ) (U := UU) (Lvl := ℕ) Finset.univ (ℓ := ouLoc d) oRowSet hd
  rw [hc] at h
  refine h.trans ?_
  rw [bigSep_univ_equiv halves, bigSep_univ_prod]
  refine bigSep_congr fun c _ => ?_
  rw [bigSep_univ_prod]
  refine bigSep_congr fun s _ => ?_
  rw [bigSep_univ_two]
  rfl

/-! ## What the handshakes carry -/

variable (m : (ℓ : Loc nD τ sig) → Buf (Elt F) ℓ) (ρ : Dev nD → PrngReg)

/-- Where the program's characters lie as they were given; -/
abbrev a0Loc (d : Dev nD) : Loc nD τ sig := (SparseCore.T d).loc main_arg0
/-- its lengths; -/
abbrev a1Loc (d : Dev nD) : Loc nD τ sig := (SparseCore.T d).loc main_arg1
/-- and its first result. -/
abbrev reLoc (d : Dev nD) : Loc nD τ sig := (SparseCore.T d).loc main_v3

/-- The characters, one row a word; -/
def ciOf (d : Dev nD) : Vec F S16384x16 .i32 := shapeCast S16384x16 (m (a0Loc d) : Vec F S16x1024x16 .i32) shapeCasts_S16x1024x16_S16384x16
/-- the lengths; -/
def lnOf (d : Dev nD) : Vec F S16384 .i32 := shapeCast S16384 (m (a1Loc d) : Vec F S16x1024 .i32) shapeCasts_S16x1024_S16384
/-- the table. -/
abbrev tbOf (d : Dev nD) : Vec F S512x64 .i32 := m (pkLoc d)

/-- What the proof asks of the launch memory: characters below 512, lengths at most 16. -/
def PreOK : Prop := ∀ d : Dev nD, (∀ i, (ciOf m d i).toNat < 512) ∧ ∀ i, (lnOf m d i).toNat ≤ 16

variable [FloatOps F]

/-- What the call leaves. -/
abbrev ouOf (d : Dev nD) : Vec F S16384x128 .f32 := pooled (tbOf m d) (ciOf m d) (lnOf m d)

/-- What core `c` is handed, the result's rows at `f`; -/
abbrev coreOf (d : Dev nD) (f : Vec F S16384x128 .f32) (c : Fin 2) : sProp 𝕄 :=
  iprop(reads d (coreQ c) (ciOf m d) (lnOf m d) (tbOf m d) ∗ bigSep Finset.univ fun s : Fin 16 => tileRows d f c s)
/-- and subcore `s` of it. -/
abbrev tileOf (d : Dev nD) (f : Vec F S16384x128 .f32) (c : Fin 2) (s : Fin 16) : sProp 𝕄 :=
  iprop(reads d (tileQ c s) (ciOf m d) (lnOf m d) (tbOf m d) ∗ tileRows d f c s)

/-- A core of the call as a number below 2. -/
abbrev toC (c : Fin ((K (F := F)).nCore 0)) : Fin 2 := Fin.cast rfl c
/-- A subcore of the call as a number below 16. -/
abbrev toS (s : Fin ((K (F := F)).nSub 0)) : Fin 16 := Fin.cast rfl s

/-- Each core takes its share of the operands and its subcores' rows, each subcore its share and its own; the rows come
    back at the result. -/
def P : (K (F := F)).Pay (nD := nD) (Val := Elt F) (Name := ℕ) (U := UU) where
  st := fun q d c => match q with | 0 => coreOf m d (m (ouLoc d)) (toC c)
  dn := fun q d c => match q with | 0 => coreOf m d (ouOf m d) (toC c)
  go := fun q d c i => match q with | 0 => tileOf m d (m (ouLoc d)) (toC c) (toS i)
  td := fun q d c i => match q with | 0 => tileOf m d (ouOf m d) (toC c) (toS i)
  x := fun _ _ => iprop(emp)

/-- What the handshakes carry may be kept in an invariant. -/
instance P_storable : (P (F := F) m).IsStorable where
  st q d c := match q with | 0 => (inferInstance : BI.Storable (upEmb : UEmb _ 𝕄) (coreOf m d (m (ouLoc d)) (toC c)))
  dn q d c := match q with | 0 => (inferInstance : BI.Storable (upEmb : UEmb _ 𝕄) (coreOf m d (ouOf m d) (toC c)))
  go q d c i := match q with | 0 => (inferInstance : BI.Storable (upEmb : UEmb _ 𝕄) (tileOf m d (m (ouLoc d)) (toC c) (toS i)))
  td q d c i := match q with | 0 => (inferInstance : BI.Storable (upEmb : UEmb _ 𝕄) (tileOf m d (ouOf m d) (toC c) (toS i)))

/-! ## The obligations of the launch -/

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What each subcore runs is its task at its own grid point. -/
theorem defs₀_vector (c : Fin τ.nSC) (s : Fin τ.nSub) :
    defs₀ (F := F) (.scVector c s) 0 () = SparseCore.onTile hcore0 hsub0 (fun c s => tileProg (coordsV c s)) ⟨⟩ c s := rfl

set_option maxRecDepth 16384 in
/-- Each subcore's task. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  refine (tile_body d (coordsV ⟨_, hci.1⟩ ⟨_, hci.2⟩) facts (tileQ (toC c) (toS i)) (ciOf m d) (lnOf m d) (tbOf m d) (m (ouLoc d))
    (hpre d).1 (hpre d).2 O W hO).trans (wp_mono frame _ _ fun _ => ?_)
  change iprop(tileOf m d (ouOf m d) (toC c) (toS i) ∗ _ ∗ _ ∗ _) ⊢ iprop(tileOf m d (ouOf m d) (toC c) (toS i) ∗ _ ∗ _ ∗ _)
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A core's operands are its subcores'. -/
theorem core_eq (d : Dev nD) (f : Vec F S16384x128 .f32) (c : Fin 2) :
    coreOf m d f c = bigSep Finset.univ fun s : Fin 16 => tileOf m d f c s := by
  unfold coreOf tileOf
  rw [split_shares (fun q => reads d q (ciOf m d) (lnOf m d) (tbOf m d)) (fun q => reads_halves d q _ _ _) 4 (coreQ c)]
  exact Eq.symm (bigSep_sep' _ _ _)

/-- Both cores' operands are the call's. -/
theorem cores_eq (d : Dev nD) (f : Vec F S16384x128 .f32) :
    (bigSep Finset.univ fun c : Fin 2 => coreOf m d f c)
      = iprop(reads d fullShare (ciOf m d) (lnOf m d) (tbOf m d) ∗ ouLoc d ↦{fullShare} f) := by
  rw [rows_split, split_shares (fun q => reads d q (ciOf m d) (lnOf m d) (tbOf m d)) (fun q => reads_halves d q _ _ _) 1 fullShare]
  exact bigSep_sep' _ _ _

/-- A core's operands go out to its subcores and come back with the result. -/
theorem vecSplit : (K (F := F)).VecSplit' (P m) 0 := by
  intro d c
  show coreOf m d (m (ouLoc d)) (toC c) ⊢ |={Set.univ}=> iprop((bigSep Finset.univ fun s : Fin 16 => tileOf m d (m (ouLoc d)) (toC c) s)
    ∗ ((bigSep Finset.univ fun s : Fin 16 => tileOf m d (ouOf m d) (toC c) s) -∗ coreOf m d (ouOf m d) (toC c)))
  rw [core_eq, core_eq]
  iintro H; imodintro
  isplitl [H]; · iexact H
  iintro H; iexact H

/-! ## The launch's ghost state -/

/-- Nothing, once for each index, is nothing. -/
theorem emp_all {I : Type} (s : Finset I) : (iprop(emp) : sProp 𝕄) = bigSep s fun _ => iprop(emp) := (bigSep_emp_const s).symm

/-- The ghost state at the launch: the handshakes' cells, and no counters of our own. -/
def u₀ : UU := (initOf (K (F := F)).hsCells (K (F := F)).hsToks, 1)

/-- It gives the handshakes their cells and each thread nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [← emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), ← emp_all]
  iempintro

/-! ## The host program -/

/-- The host program's buffers: the characters given, -/
abbrev b0 : DevRef τ sig := Proc.devRef .tc (main_arg0 : Ref sig .tc)
/-- the lengths given, -/
abbrev b1 : DevRef τ sig := Proc.devRef .tc (main_arg1 : Ref sig .tc)
/-- the characters by word, -/
abbrev bc : DevRef τ sig := Proc.devRef .tc (main_v0 : Ref sig .tc)
/-- the lengths by word, -/
abbrev bl : DevRef τ sig := Proc.devRef .tc (main_v1 : Ref sig .tc)
/-- what the call writes, -/
abbrev bo : DevRef τ sig := Proc.devRef .tc (main_v2 : Ref sig .tc)
/-- and the first result. -/
abbrev br : DevRef τ sig := Proc.devRef .tc (main_v3 : Ref sig .tc)

/-- Two buffers held whole. -/
theorem held_two (d : Dev nD) {a b : DevRef τ sig} (h : a ≠ b) (W : Valuation τ sig (Elt F)) :
    (held (T d) {a, b} W : sProp 𝕄) = iprop((((d, a) : Loc nD τ sig) ↦{fullShare} W a) ∗ ((d, b) : Loc nD τ sig) ↦{fullShare} W b) := by
  unfold held
  rw [SparseCore.bigSep_insert' (by simpa using h), bigSep_singleton]

/-- The host program's buffers are these seven. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (pkLoc d ↦{fullShare} W main_arg2)
      ∗ (ciLoc d ↦{fullShare} W main_v0) ∗ (lnLoc d ↦{fullShare} W main_v1) ∗ (ouLoc d ↦{fullShare} W main_v2) ∗ reLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The program's first result. -/
def reOf (d : Dev nD) : Vec F S16x1024x128 .f32 := shapeCast S16x1024x128 (ouOf m d) shapeCasts_S16384x128_S16x1024x128

/-- The launch valuation; after the call, the result at the pooled rows. -/
def V0 (d : Dev nD) : Valuation τ sig (Elt F) := fun b => m (d, b)
/-- The valuation after the call. -/
def V1 (d : Dev nD) : Valuation τ sig (Elt F) := Function.update (V0 m d) bo (ouOf m d)

/-- The host's reshape of the characters, -/
abbrev op0 : HloOp τ sig (Elt F) := StableHlo.reshape main_arg0 main_v0 (rfl : (.i32 : EltTy) = .i32) shapeCasts_S16x1024x16_S16384x16
/-- of the lengths, -/
abbrev op1 : HloOp τ sig (Elt F) := StableHlo.reshape main_arg1 main_v1 (rfl : (.i32 : EltTy) = .i32) shapeCasts_S16x1024_S16384
/-- and of the call's result. -/
abbrev op3 : HloOp τ sig (Elt F) := StableHlo.reshape main_v2 main_v3 (rfl : (.f32 : EltTy) = .f32) shapeCasts_S16384x128_S16x1024x128

/-- The first reshape leaves the characters, one row a word; -/
theorem held_op0 (d : Dev nD) : (held (T d) {b0, bc} ((op0 (F := F)).result (V0 m d)) : sProp 𝕄)
    = iprop((a0Loc d ↦{fullShare} m (a0Loc d)) ∗ ciLoc d ↦{fullShare} ciOf m d) := by
  rw [held_two d (by decide), StableHlo.reshape_result_ne' (h := by decide), StableHlo.reshape_result']
  rfl
/-- the second leaves the lengths; -/
theorem held_op1 (d : Dev nD) : (held (T d) {b1, bl} ((op1 (F := F)).result (V0 m d)) : sProp 𝕄)
    = iprop((a1Loc d ↦{fullShare} m (a1Loc d)) ∗ lnLoc d ↦{fullShare} lnOf m d) := by
  rw [held_two d (by decide), StableHlo.reshape_result_ne' (h := by decide), StableHlo.reshape_result']
  rfl
/-- the last leaves the first result. -/
theorem held_op3 (d : Dev nD) : (held (T d) {bo, br} ((op3 (F := F)).result (V1 m d)) : sProp 𝕄)
    = iprop((ouLoc d ↦{fullShare} ouOf m d) ∗ reLoc d ↦{fullShare} reOf m d) := by
  rw [held_two d (by decide), StableHlo.reshape_result_ne' (h := by decide), StableHlo.reshape_result']
  rw [show V1 m d (Proc.devRef .tc main_v2) = ouOf m d from Function.update_self _ _ _]
  rfl
/-- What is held of the result before its reshape. -/
theorem held_V1 (d : Dev nD) : (held (T d) {bo, br} (V1 m d) : sProp 𝕄) = iprop((ouLoc d ↦{fullShare} ouOf m d) ∗ reLoc d ↦{fullShare} m (reLoc d)) := by
  rw [held_two d (by decide), show V1 m d bo = ouOf m d from Function.update_self _ _ _, show V1 m d br = m (reLoc d) from Function.update_of_ne (by decide) _ _]

/-- What @main leaves. -/
abbrev FIN (d : Dev nD) : sProp 𝕄 := iprop((a0Loc d ↦{fullShare} m (a0Loc d)) ∗ (a1Loc d ↦{fullShare} m (a1Loc d)) ∗ (pkLoc d ↦{fullShare} m (pkLoc d))
  ∗ (lnLoc d ↦{fullShare} lnOf m d) ∗ reLoc d ↦{fullShare} reOf m d)

/-- The host program: it reshapes, runs the call and reshapes the result, and ends with the arguments as they were and
    both results at their values. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Hpk, Hci, Hln, Hou, Hre⟩, Hts, -⟩, -⟩
  iapply (wp_hlo_within 𝒱 (SparseCore.T d) none Set.univ (op := op0) (S := {b0, bc}) (fun _ h => h) (V := V0 m d)) $$ [Hb Ha0 Hci]
  · isplitl [Hb]; · iexact Hb
    rw [held_two d (by decide)]
    isplitl [Ha0]; · iexact Ha0
    iexact Hci
  iintro ⟨Hb, Hh⟩
  ihave Hh := (Entails.of_eq (held_op0 m d)) $$ Hh
  icases Hh with ⟨Ha0, Hci⟩
  rw [wp_ret]; imodintro
  iapply (wp_hlo_within 𝒱 (SparseCore.T d) none Set.univ (op := op1) (S := {b1, bl}) (fun _ h => h) (V := V0 m d)) $$ [Hb Ha1 Hln]
  · isplitl [Hb]; · iexact Hb
    rw [held_two d (by decide)]
    isplitl [Ha1]; · iexact Ha1
    iexact Hln
  iintro ⟨Hb, Hh⟩
  ihave Hh := (Entails.of_eq (held_op1 m d)) $$ Hh
  icases Hh with ⟨Ha1, Hln⟩
  rw [wp_ret]; imodintro
  iapply ((K (F := F)).wp_run (D (F := F)) 𝒱 (EH := EH) (P := P m) κ d 0) $$ [Hst Hci Hln Hpk Hou Hb Hts Ha0 Ha1 Hre]
  isplitr; · iexact Hctx
  isplitl [Hst]; · iexact Hst
  isplitl [Hci Hln Hpk Hou]
  · iapply (Entails.of_eq (cores_eq m d (m (ouLoc d))).symm)
    isplitl [Hci Hln Hpk]
    · isplitl [Hci]; · iexact Hci
      isplitl [Hln]; · iexact Hln
      iexact Hpk
    iexact Hou
  iintro ⟨Hst, Hdn⟩
  ihave Hdn' := (Entails.of_eq (show (bigSep Finset.univ fun c : Fin ((K (F := F)).nCore 0) => (P m).dn 0 d c) = _ from cores_eq m d (ouOf m d))) $$ Hdn
  icases Hdn' with ⟨⟨Hci, Hln, Hpk⟩, Hou⟩
  iapply (wp_hlo_within 𝒱 (SparseCore.T d) none Set.univ (op := op3) (S := {bo, br}) (fun _ h => h) (V := V1 m d)) $$ [Hb Hou Hre]
  · isplitl [Hb]; · iexact Hb
    rw [held_V1]
    isplitl [Hou]; · iexact Hou
    iexact Hre
  iintro ⟨Hb, Hh⟩
  ihave Hh := (Entails.of_eq (held_op3 m d)) $$ Hh
  icases Hh with ⟨-, Hre⟩
  rw [wp_ret]; imodintro; imodintro
  isplitl [Hst]; · iexact Hst
  isplitr [Hb Hts]
  · isplitl [Ha0]; · iexact Ha0
    isplitl [Ha1]; · iexact Ha1
    isplitl [Hpk]; · iexact Hpk
    isplitl [Hln]; · iexact Hln
    iexact Hre
  isplitl [Hb] <;> iassumption

/-- What the final memory says. -/
def fq (d : Dev nD) (s' : Phys nD τ sig (Elt F)) : Prop :=
  s'.mem.mem (a0Loc d) = m (a0Loc d) ∧ s'.mem.mem (a1Loc d) = m (a1Loc d) ∧ s'.mem.mem (pkLoc d) = m (pkLoc d)
    ∧ s'.mem.mem (lnLoc d) = lnOf m d ∧ s'.mem.mem (reLoc d) = reOf m d

/-- A buffer held whole is what the memory has there. -/
theorem agree (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
/-- What @main leaves is so in the final memory. -/
theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (agree (a0Loc d) _ s') $$ [HSI H0]; · isplitl [HSI] <;> iassumption
  icases H with ⟨%h0, HSI⟩
  ihave H := (agree (a1Loc d) _ s') $$ [HSI H1]; · isplitl [HSI] <;> iassumption
  icases H with ⟨%h1, HSI⟩
  ihave H := (agree (pkLoc d) _ s') $$ [HSI H2]; · isplitl [HSI] <;> iassumption
  icases H with ⟨%h2, HSI⟩
  ihave H := (agree (lnLoc d) _ s') $$ [HSI H3]; · isplitl [HSI] <;> iassumption
  icases H with ⟨%h3, HSI⟩
  ihave H := (agree (reLoc d) _ s') $$ [HSI H4]; · isplitl [HSI] <;> iassumption
  icases H with ⟨%h4, -⟩
  ipureintro; exact ⟨h0, h1, h2, h3, h4⟩

/-! ## The run -/

/-- What the run leaves on every device. -/
def QC : PUnit × MemSt nD τ sig (Elt F) → Prop := fun r =>
  (∀ d : Dev nD, r.2.mem (a0Loc d) = m (a0Loc d) ∧ r.2.mem (a1Loc d) = m (a1Loc d) ∧ r.2.mem (pkLoc d) = m (pkLoc d)
    ∧ r.2.mem (lnLoc d) = lnOf m d ∧ r.2.mem (reLoc d) = reOf m d) ∧ r.2.sem = fun _ => 0

/-- The run of the whole program: where the characters lie below 512 and the lengths are at most 16, every thread ends,
    the arguments are unchanged, the results are the pooled words and the lengths, and every counter is zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pool

end
-- ==== Proof.Ranges.lean ====
/-
  What the precondition says of the arguments: characters below 512, lengths at most 16, and a first table row of zeros.
-/
module

public import proofs.«01_k».proof.Proof.Gen.Pre_in_range
public import proofs.«01_k».proof.Proof.Launch
public import Idealize.ShloMosaic.Lib.Pointwise
public import Idealize.ShloMosaic.Lib.ReduceAll

@[expose] public section

noncomputable section

namespace Cert.Proof.Pool

open Cert.Pre_in_range Cert.Pre_in_range.Gen
open Idealize.ShloMosaic

/-- A conjunction of two bits that is 1. -/
theorem andi_one {x y : BitVec 1} (h : IntOp.andi x y = 1#1) : x = 1#1 ∧ y = 1#1 := IntOp.andi_eq_one.1 h

/-- A bit of a truth value that is 1. -/
theorem of_bit {b : Bool} (h : BitVec.ofBool b = 1#1) : b = true := by
  cases b
  · exact absurd h (by decide)
  · rfl

/-- A word that is, signed, at least 0 and below 512. -/
theorem chr_range (w : BitVec 32) (h : IntOp.andi (IntOp.cmpi .sge w 0#32) (IntOp.cmpi .slt w 512#32) = 1#1) : w.toNat < 512 := by
  have h1 := of_bit (andi_one h).1
  have h2 := of_bit (andi_one h).2
  simp only [BitVec.sle_eq_decide, BitVec.slt_eq_decide, decide_eq_true_eq, BitVec.toInt_eq_toNat_cond, BitVec.toNat_ofNat, Nat.reducePow, Nat.reduceMod] at h1 h2
  omega

/-- A word that is, signed, at least 0 and at most 16. -/
theorem len_range (w : BitVec 32) (h : IntOp.andi (IntOp.cmpi .sge w 0#32) (IntOp.cmpi .sle w 16#32) = 1#1) : w.toNat ≤ 16 := by
  have h1 := of_bit (andi_one h).1
  have h2 := of_bit (andi_one h).2
  simp only [BitVec.sle_eq_decide, decide_eq_true_eq, BitVec.toInt_eq_toNat_cond, BitVec.toNat_ofNat, Nat.reducePow, Nat.reduceMod] at h1 h2
  omega

/-- A scalar has one element. -/
instance : Subsingleton S_.Idx := ⟨fun _ _ => funext fun a => a.elim0⟩

/-- The precondition read at each argument. -/
theorem pre_reads {F : FTy → Type} [FloatOps F] (a0 : IVec S16x1024x16 32) (a1 : IVec S16x1024 32) (a2 : IVec S512x64 32)
    (h : fn (F := F) a0 a1 a2 = fun _ => 1#1) :
    (∀ i, (a0 i).toNat < 512) ∧ (∀ i, (a1 i).toNat ≤ 16) ∧ ∀ j : Fin 64, a2 (ix2 (0 : Fin 512) j) = 0#32 := by
  have e := congrFun h ix0
  dsimp only [fn, fn_part1] at e
  obtain ⟨e12, e3⟩ := andi_one e
  obtain ⟨e1, e2⟩ := andi_one e12
  refine ⟨fun i => ?_, fun i => ?_, fun j => ?_⟩
  · exact chr_range _ (Host.reduce_andi_all _ _ _ _ _ e1 i)
  · exact len_range _ (Host.reduce_andi_all _ _ _ _ _ e2 i)
  · have e4 := Host.reduce_andi_all _ _ _ _ _ e3 (ix1 j)
    have e5 : BitVec.ofBool (a2 (ix2 (0 : Fin 512) j) == 0#32) = 1#1 := by
      refine Eq.trans (congrArg (fun w : BitVec 32 => BitVec.ofBool (w == 0#32)) ?_) e4
      pointwise
    exact eq_of_beq (of_bit e5)

/-- The precondition gives what the run asks of the launch memory. -/
theorem preOK {F : FTy → Type} [FloatOps F] (m : (ℓ : Loc Cert.KernelIdeal.nD Cert.KernelIdeal.τ Cert.KernelIdeal.sig) → Buf (Elt F) ℓ)
    (h : ∀ d, fn (F := F) (m (a0Loc d)) (m (a1Loc d)) (m (pkLoc d)) = fun _ => 1#1) : PreOK m := fun d =>
  have r := pre_reads (F := F) (m (a0Loc d)) (m (a1Loc d)) (m (pkLoc d)) (h d)
  ⟨fun _ => r.1 _, fun _ => r.2.1 _⟩

end Cert.Proof.Pool

end
-- ==== Proof.Reads.lean ====
/-
  The reference's index operations read at one element: the argsort as a permutation of the words, the gathers of
  lengths, character rows and table rows, and the scatter that puts the sorted rows back.
-/
module

public import proofs.«01_k».proof.Proof.Gen.ReferenceIdeal
public import Idealize.ShloMosaic.Lib.Pointwise
public import Idealize.ShloMosaic.Lib.ReduceAll
public import Idealize.ShloMosaic.Lib.SortFacts
public import Idealize.ShloMosaic.Lib.ValueIdxCore
public import Idealize.ShloMosaic.Lib.Routing.OpsOne

@[expose] public section

noncomputable section

namespace Cert.Proof.Pool.Ref

open Cert.ReferenceIdeal Cert.ReferenceIdeal.Gen
open Idealize.ShloMosaic

/-! ## The argsort -/

/-- The words' places in the order of the keys `x`. -/
def order (x : IVec S16384 32) : IVec S16384 32 := (Host.sort2 S16384 0 comparator_i32_i32_d0 x (iotaInDim S16384 32 0)).2

/-- The word that comes at place `p` of the order. -/
def src (x : IVec S16384 32) (p : Fin 16384) : Fin 16384 :=
  sortedFrom (fun k k' : Fin 16384 => comparator_i32_i32_d0 (x (ix1 k), BitVec.ofNat 32 k.val) (x (ix1 k'), BitVec.ofNat 32 k'.val) == 1#1) p

/-- Every word comes at one place, -/
theorem src_surjective (x : IVec S16384 32) : Function.Surjective (src x) := sortedFrom_surjective _
/-- and at one only. -/
theorem src_injective (x : IVec S16384 32) : Function.Injective (src x) := sortedFrom_injective _

/-- The fiber of a vector through any place is the vector. -/
theorem along_ix1 (j : S16384.Idx) (k : Fin 16384) : j.along (0 : Fin 1) k = (ix1 k : S16384.Idx) := by
  funext a
  obtain rfl : a = (0 : Fin 1) := Subsingleton.elim _ _
  exact Function.update_self ..

/-- The places' own numbers, read along the vector. -/
theorem iota_along (j : S16384.Idx) (k : Fin 16384) : iotaInDim S16384 32 0 (j.along (0 : Fin 1) k) = BitVec.ofNat 32 k.val := by
  rw [along_ix1]
  rfl

/-- The order's entry at place `p` is the number of the word there. -/
theorem order_apply (x : IVec S16384 32) (p : Fin 16384) : order x (ix1 p) = BitVec.ofNat 32 (src x p).val := by
  unfold order Host.sort2
  rw [dif_pos (show 0 < S16384.rank from Nat.one_pos)]
  refine (iota_along (ix1 p) _).trans ?_
  unfold src
  refine congrArg (fun f => BitVec.ofNat 32 (sortedFrom (n := 16384) f p).val) (funext fun k => funext fun k' => ?_)
  refine congrArg₂ (fun a b => comparator_i32_i32_d0 a b == 1#1) ?_ ?_
  · exact Prod.ext (congrArg x (along_ix1 (ix1 p) k)) (iota_along (ix1 p) k)
  · exact Prod.ext (congrArg x (along_ix1 (ix1 p) k')) (iota_along (ix1 p) k')

/-! ## The indices, wrapped -/

/-- Word numbers as the indexing of the words takes them. -/
def wrapWord (i : IVec S16384 32) : IVec S16384x1 32 :=
  broadcastInDim S16384x1 ![0] bcast_S16384_S16384x1_0 (select (cmpi .slt i (broadcastInDim S16384 ![] bcast_S_S16384 (constantI S_ 32 0#32)))
    (addi i (broadcastInDim S16384 ![] bcast_S_S16384 (constantI S_ 32 16384#32))) i)

/-- A word number is kept. -/
theorem wrapWord_apply (i : IVec S16384 32) (p : Fin 16384) (b : Fin 16384) (h : i (ix1 p) = BitVec.ofNat 32 b.val) :
    wrapWord i (ix2 p (0 : Fin 1)) = BitVec.ofNat 32 b.val := by
  pointwise [wrapWord]
  rw [h]
  exact Routing.wrap_of_lt _ _ (by rw [BitVec.toNat_ofNat]; have := b.isLt; omega)

/-- Characters as the indexing of the table takes them. -/
def wrapChr (i : IVec S16384x16 32) : IVec S16384x16x1 32 :=
  broadcastInDim S16384x16x1 ![0, 1] bcast_S16384x16_S16384x16x1_0_1
    (select (cmpi .slt i (broadcastInDim S16384x16 ![] bcast_S_S16384x16 (constantI S_ 32 0#32)))
      (addi i (broadcastInDim S16384x16 ![] bcast_S_S16384x16 (constantI S_ 32 512#32))) i)

/-- A character is kept. -/
theorem wrapChr_apply (i : IVec S16384x16 32) (p : Fin 16384) (t : Fin 16) (u : Fin 1) (h : (i (ix2 p t)).toNat < 512) :
    wrapChr i (ix3 p t u) = i (ix2 p t) := by
  pointwise [wrapChr]
  exact Routing.wrap_of_lt _ _ (by omega)

/-! ## The gathers and the scatter -/

/-- The lengths taken at word numbers. -/
theorem takeLen (x : IVec S16384 32) (i : IVec S16384 32) (p b : Fin 16384) (h : i (ix1 p) = BitVec.ofNat 32 b.val) :
    Host.gather gather_S16384_S16384x1_S16384_n_0_n_n_0_1_1 x (wrapWord i) (ix1 p) = x (ix1 b) :=
  Routing.gather_take1 (N := 16384) (n := 16384) gather_S16384_S16384x1_S16384_n_0_n_n_0_1_1 rfl rfl rfl rfl x (wrapWord i) p b (wrapWord_apply i p b h) (by norm_num)

/-- The character rows taken at word numbers. -/
theorem takeRow (x : IVec S16384x16 32) (i : IVec S16384 32) (p b : Fin 16384) (t : Fin 16) (h : i (ix1 p) = BitVec.ofNat 32 b.val) :
    Host.gather gather_S16384x16_S16384x1_S16384x16_1_0_n_n_0_1_116 x (wrapWord i) (ix2 p t) = x (ix2 b t) :=
  Routing.gather_row (nb := 16384) (B := 16) (n := 16384) gather_S16384x16_S16384x1_S16384x16_1_0_n_n_0_1_116 rfl rfl rfl rfl rfl x (wrapWord i) p t b
    (wrapWord_apply i p b h) (by norm_num)

/-- The table's rows taken at characters. -/
theorem takeEmb {α : Type} (x : S512x128.Idx → α) (i : IVec S16384x16x1 32) (p : Fin 16384) (t : Fin 16) (c : Fin 128) (b : Fin 512)
    (h : (i (ix3 p t (0 : Fin 1))).toNat = b.val) :
    Host.gather gather_S512x128_S16384x16x1_S16384x16x128_2_0_n_n_0_2_1128 x i (ix3 p t c) = x (ix2 b c) := by
  have hs0 : gather_S512x128_S16384x16x1_S16384x16x128_2_0_n_n_0_2_1128.start (ix3 p t c) i 0 = b.val := by
    unfold GatherDims.start
    rw [dif_pos (show (0 : Fin 2) ∈ gather_S512x128_S16384x16x1_S16384x16x128_2_0_n_n_0_2_1128.startIndexMap from List.mem_singleton.mpr rfl)]
    have hsi : gather_S512x128_S16384x16x1_S16384x16x128_2_0_n_n_0_2_1128.siIdx (ix3 p t c)
        ⟨List.idxOf (0 : Fin 2) gather_S512x128_S16384x16x1_S16384x16x128_2_0_n_n_0_2_1128.startIndexMap,
          List.idxOf_lt_length_iff.2 (List.mem_singleton.mpr rfl)⟩ = ix3 p t (0 : Fin 1) := by
      funext b'
      refine Fin.ext ?_
      match b' with
      | ⟨0, _⟩ => rfl
      | ⟨1, _⟩ => rfl
      | ⟨2, _⟩ => rfl
    have hb := b.isLt
    rw [hsi, BitVec.toInt_eq_toNat_of_lt (by omega), h]
    show min ((b.val : ℤ)).toNat (512 - 1) = b.val
    omega
  have hs1 : gather_S512x128_S16384x16x1_S16384x16x128_2_0_n_n_0_2_1128.start (ix3 p t c) i 1 = 0 := rfl
  have ho0 : gather_S512x128_S16384x16x1_S16384x16x128_2_0_n_n_0_2_1128.offCoord (ix3 p t c) 0 = 0 := rfl
  have ho1 : gather_S512x128_S16384x16x1_S16384x16x128_2_0_n_n_0_2_1128.offCoord (ix3 p t c) 1 = c.val := rfl
  unfold Host.gather
  refine congrArg x (funext fun a => Fin.ext ?_)
  show gather_S512x128_S16384x16x1_S16384x16x128_2_0_n_n_0_2_1128.start (ix3 p t c) i a + gather_S512x128_S16384x16x1_S16384x16x128_2_0_n_n_0_2_1128.batchCoord (ix3 p t c) a + gather_S512x128_S16384x16x1_S16384x16x128_2_0_n_n_0_2_1128.offCoord (ix3 p t c) a = _
  rw [GatherDims.batchCoord_eq_zero _ _ _ List.not_mem_nil, Nat.add_zero]
  match a with
  | ⟨0, _⟩ => exact congrArg₂ (· + ·) hs0 ho0
  | ⟨1, _⟩ => exact (congrArg₂ (· + ·) hs1 ho1).trans (Nat.zero_add _)

/-- Row `q` of the sorted rows lands at the word its place names, column by column. -/
theorem lands (i : IVec S16384 32) (q b : Fin 16384) (c' : Fin 128) (h : i (ix1 q) = BitVec.ofNat 32 b.val) (n : Fin 16384) (c : Fin 128) :
    scatter_S16384x128_S16384x1_S16384x128_1_0_0_1.resultIdx? (ix2 q c') (wrapWord i) = some (ix2 n c) ↔ b = n ∧ c' = c := by
  have hw0 : scatter_S16384x128_S16384x1_S16384x128_1_0_0_1.window (ix2 q c') 0 = 0 := rfl
  have hw1 : scatter_S16384x128_S16384x1_S16384x128_1_0_0_1.window (ix2 q c') 1 = c'.val := rfl
  have hs1 : scatter_S16384x128_S16384x1_S16384x128_1_0_0_1.start (ix2 q c') (wrapWord i) 1 = 0 := rfl
  have hs0 : scatter_S16384x128_S16384x1_S16384x128_1_0_0_1.start (ix2 q c') (wrapWord i) 0 = (b.val : ℤ) := by
    unfold ScatterDims.start
    rw [dif_pos (show (0 : Fin 2) ∈ scatter_S16384x128_S16384x1_S16384x128_1_0_0_1.scatterDimsToOperandDims from List.mem_singleton.mpr rfl)]
    have hsi : scatter_S16384x128_S16384x1_S16384x128_1_0_0_1.siIdx (ix2 q c')
        ⟨List.idxOf (0 : Fin 2) scatter_S16384x128_S16384x1_S16384x128_1_0_0_1.scatterDimsToOperandDims,
          List.idxOf_lt_length_iff.2 (List.mem_singleton.mpr rfl)⟩ = ix2 q (0 : Fin 1) := by
      funext b'
      refine Fin.ext ?_
      match b' with
      | ⟨0, _⟩ => rfl
      | ⟨1, _⟩ => rfl
    have hb := b.isLt
    rw [hsi, wrapWord_apply i q b h, StableHlo.Predicate.toInt_ofNat_small _ (by omega)]
  rw [Fin.ext_iff, Fin.ext_iff]
  refine (Routing.resultIdx?_ix2 (R := 16384) (C := 128) scatter_S16384x128_S16384x1_S16384x128_1_0_0_1 (ix2 q c') (wrapWord i) n c).trans ?_
  rw [hs0, hw0, hs1, hw1]
  omega

/-- Rows put back where the order took them from: word `n`'s row is the sorted row at its place. -/
theorem putBack {α : Type} (x0 upd : S16384x128.Idx → α) (i : IVec S16384 32) (σ : Fin 16384 → Fin 16384) (hσ : Function.Injective σ)
    (h : ∀ p, i (ix1 p) = BitVec.ofNat 32 (σ p).val) (p n : Fin 16384) (hp : σ p = n) (c : Fin 128) :
    Host.scatter scatter_S16384x128_S16384x1_S16384x128_1_0_0_1 (fun _ b => b) x0 (wrapWord i) upd (ix2 n c) = upd (ix2 p c) := by
  refine Routing.scatter_set_hit _ x0 (wrapWord i) upd _ _ (fun k hk => ?_) (ix2 p c) ((lands i p (σ p) c (h p) n c).2 ⟨hp, rfl⟩)
  obtain ⟨q, c', rfl⟩ : ∃ (q : Fin 16384) (c' : Fin 128), k = ix2 q c' := ⟨k 0, k 1, funext fun a => by match a with | ⟨0, _⟩ => rfl | ⟨1, _⟩ => rfl⟩
  obtain ⟨h1, h2⟩ := (lands i q (σ q) c' (h q) n c).1 hk
  rw [hσ (h1.trans hp.symm), h2]

end Cert.Proof.Pool.Ref

end
-- ==== Proof.Words.lean ====
/-
  What a packed table word means over the extended reals: each half of the word is a bf16 pattern, and the f32 pattern
  made of that half, with sixteen zeros under it, denotes the same number.
-/
module

public import proofs.«01_k».proof.Proof.Base
public import Idealize.ShloMosaic.Lib.Pointwise
public import Mathlib.Tactic.IntervalCases
public import Mathlib.Tactic.Ring
public import Mathlib.Tactic.NormNum

@[expose] public section

noncomputable section

namespace Cert.Proof.Pool

open Cert.KernelIdeal
open Idealize.ShloMosaic

/-- An f32 pattern and a bf16 pattern with one sign, one exponent, and the fraction of the first that of the second with
    sixteen zeros under it denote one number. -/
theorem ieee_widen (w : BitVec 32) (h : BitVec 16) (hs : w.extractLsb' 31 1 = h.extractLsb' 15 1)
    (he : w.extractLsb' 23 8 = h.extractLsb' 7 8) (hf : (w.extractLsb' 0 23).toNat = (h.extractLsb' 0 7).toNat * 65536) :
    Ideal.ieee 8 23 w = Ideal.ieee 8 7 h := by
  unfold Ideal.ieee
  simp only [Nat.reduceAdd, hs, he, hf, Nat.mul_eq_zero, OfNat.ofNat_ne_zero, or_false]
  generalize (h.extractLsb' 0 7).toNat = fr
  generalize (h.extractLsb' 7 8).toNat = ex
  generalize (if (h.extractLsb' 15 1 == 1#1) = true then (-1 : ℝ) else 1) = sg
  have e1 : (2 : ℝ) ^ (1 - (2 ^ (8 - 1) - 1) - (7 : ℕ) : ℤ) = 65536 * (2 : ℝ) ^ (1 - (2 ^ (8 - 1) - 1) - (23 : ℕ) : ℤ) := by
    rw [show (1 - (2 ^ (8 - 1) - 1) - (7 : ℕ) : ℤ) = 16 + (1 - (2 ^ (8 - 1) - 1) - (23 : ℕ)) by norm_num, zpow_add₀ (by norm_num)]
    norm_num
  have e2 : (2 : ℝ) ^ ((ex : ℤ) - (2 ^ (8 - 1) - 1) - (7 : ℕ)) = 65536 * (2 : ℝ) ^ ((ex : ℤ) - (2 ^ (8 - 1) - 1) - (23 : ℕ)) := by
    rw [show ((ex : ℤ) - (2 ^ (8 - 1) - 1) - (7 : ℕ)) = 16 + ((ex : ℤ) - (2 ^ (8 - 1) - 1) - (23 : ℕ)) by push_cast; ring, zpow_add₀ (by norm_num)]
    norm_num
  rw [e1, e2]
  congr 1
  congr 1
  · refine congrArg (fun x : ℝ => (x : EReal)) ?_
    push_cast
    rw [show sg * ((fr : ℝ) * 65536) = sg * fr * 65536 by ring, mul_assoc (sg * fr)]
  · refine congrArg (fun x : ℝ => (x : EReal)) ?_
    push_cast
    rw [show sg * (8388608 + (fr : ℝ) * 65536) = sg * (128 + fr) * 65536 by ring, mul_assoc (sg * (128 + (fr : ℝ)))]

/-- A word with its low half cleared is its high half moved down and up again. -/
theorem and_high (w : BitVec 32) : w &&& 4294901760#32 = (w >>> (16 : ℕ)) <<< (16 : ℕ) := by
  refine BitVec.eq_of_getElem_eq fun i hi => ?_
  simp only [BitVec.getElem_and, BitVec.getElem_shiftLeft, BitVec.getLsbD_ushiftRight]
  interval_cases i <;> simp [BitVec.getLsbD_eq_getElem]

/-- A word's low half, moved up, denotes what the low half denotes. -/
theorem ofBits_lo (w : BitVec 32) : Ideal.ofBits .f32 (w <<< (16 : ℕ)) = Ideal.ofBits .bf16 (w.extractLsb' 0 16) := by
  refine ieee_widen _ _ (BitVec.eq_of_toNat_eq ?_) (BitVec.eq_of_toNat_eq ?_) ?_ <;>
    simp only [BitVec.extractLsb'_toNat, BitVec.toNat_shiftLeft, Nat.shiftRight_eq_div_pow, Nat.shiftLeft_eq] <;> omega

/-- A word with its low half cleared denotes what its high half denotes. -/
theorem ofBits_hi (w : BitVec 32) : Ideal.ofBits .f32 (w &&& 4294901760#32) = Ideal.ofBits .bf16 (w.extractLsb' 16 16) := by
  rw [and_high]
  refine ieee_widen _ _ (BitVec.eq_of_toNat_eq ?_) (BitVec.eq_of_toNat_eq ?_) ?_ <;>
    simp only [BitVec.extractLsb'_toNat, BitVec.toNat_shiftLeft, BitVec.toNat_ushiftRight, Nat.shiftRight_eq_div_pow, Nat.shiftLeft_eq] <;> omega

/-- The number in column `c` of a row of packed words: columns below 64 are the low halves, the rest the high halves. -/
def colVal (Tb : IVec S512x64 32) (i c : ℕ) : EReal :=
  if c < 64 then Ideal.ofBits .bf16 ((tabAt Tb i c).extractLsb' 0 16)
  else Ideal.ofBits .bf16 ((tabAt Tb i (c - 64)).extractLsb' 16 16)

/-- A row of zero words is a row of zeros. -/
theorem colVal_zero (Tb : IVec S512x64 32) (h : ∀ j : Fin 64, Tb (ix2 (0 : Fin 512) j) = 0#32) (c : ℕ) : colVal Tb 0 c = 0 := by
  have ht : ∀ j, tabAt Tb 0 j = 0#32 := fun j => h _
  unfold colVal
  rw [ht, ht]
  split <;> exact Ideal.ofBits_zero_bf16

end Cert.Proof.Pool

end
-- ==== Proof.Value.lean ====
/-
  The pooling kernel's result over the extended reals: row `n`, column `c`, is the sum over the characters of word `n`
  that lie within its length of what the table holds for them in column `c`, times one over the length.
-/
module

public import proofs.«01_k».proof.Proof.Tile
public import proofs.«01_k».proof.Proof.Words
public import Mathlib.Algebra.BigOperators.Fin

@[expose] public section

noncomputable section

namespace Cert.Proof.Pool

open Cert.KernelIdeal
open Idealize.ShloMosaic

/-- A length as a divisor: the length itself, and 1 for an empty word. -/
def denom (n : BitVec 32) : EReal := FloatOps.sitofp (F := Ideal) .f32 (IntOp.maxsi n 1#32)

/-- The sum, over the characters of word `n` within its length, of the table's column `c`. -/
def sumAt (Tb : IVec S512x64 32) (ci : IVec S16384x16 32) (ln : IVec S16384 32) (n : Fin 16384) (c : Fin 128) : EReal :=
  ∑ t : Fin 16, if t.val < (ln (ix1 n)).toNat then colVal Tb (ci (ix2 n t)).toNat c.val else 0

/-- A running sum from zero is the sum. -/
theorem sumUpTo_eq (g : BitVec 32 → Ideal .f32) (w : ℕ → BitVec 32) (n : ℕ) :
    sumUpTo (F := Ideal) g w n = ∑ t ∈ Finset.range n, (g (w t) : EReal) := by
  induction n with
  | zero => exact Ideal.ofBits_zero_f32
  | succ n ih =>
    rw [Finset.sum_range_succ, ← ih]
    rfl

/-- The low halves' sum is the sum of the columns below 64, and the high halves' that of the rest. -/
theorem sumUpTo_col (Tb : IVec S512x64 32) (i : ℕ → ℕ) (c n : ℕ) :
    (if c < 64 then sumUpTo (F := Ideal) lo (fun t => tabAt Tb (i t) c) n
      else sumUpTo hi (fun t => tabAt Tb (i t) (c - 64)) n) = ∑ t ∈ Finset.range n, colVal Tb (i t) c := by
  unfold colVal
  split
  · rw [sumUpTo_eq]
    exact Finset.sum_congr rfl fun t _ => ofBits_lo _
  · rw [sumUpTo_eq]
    exact Finset.sum_congr rfl fun t _ => ofBits_hi _

/-- A small place number compared with a small length, as words and as numbers. -/
theorem place_slt (t : ℕ) (ht : t < 16) (w : BitVec 32) (hw : w.toNat ≤ 16) :
    (BitVec.ofNat 32 t).slt w = decide (t < w.toNat) := by
  have e : (BitVec.ofNat 32 t).toNat = t := by rw [BitVec.toNat_ofNat]; omega
  rw [BitVec.slt_eq_decide, BitVec.toInt_eq_toNat_of_lt (by omega), BitVec.toInt_eq_toNat_of_lt (by omega), e]
  exact decide_eq_decide.2 (by omega)

/-- Word `r` of block `b` is word `n = 512 b + r`: its length, -/
theorem lenAt_block (ln : IVec S16384 32) (n : Fin 16384) : lenAt (blockN ln (n.val / 512)) (n.val % 512) = ln (ix1 n) := by
  unfold lenAt blockN
  refine congrArg ln (congrArg ix1 (Fin.ext ?_))
  show (512 * (n.val / 512) + n.val % 512 % 512) % 16384 = n.val
  omega

/-- and its character `t`, which is 0 at or past the length. -/
theorem chrAt_block (ci : IVec S16384x16 32) (ln : IVec S16384 32) (n : Fin 16384) (t : Fin 16) (hw : (ln (ix1 n)).toNat ≤ 16) :
    chrAt (cleaned (blockC ci (n.val / 512)) (blockN ln (n.val / 512))) (n.val % 512) t.val
      = if t.val < (ln (ix1 n)).toNat then ci (ix2 n t) else 0#32 := by
  have e0 : ((Fin.ofNat 512 (n.val % 512)).val) = n.val % 512 := by show n.val % 512 % 512 = _; omega
  have e1 : ((Fin.ofNat 16 t.val).val) = t.val := by show t.val % 16 = _; omega
  have hc : blockC ci (n.val / 512) (ix2 (Fin.ofNat 512 (n.val % 512)) (Fin.ofNat 16 t.val)) = ci (ix2 n t) := by
    refine congrArg ci (congrArg₂ ix2 (Fin.ext ?_) (Fin.ext ?_))
    · show (512 * (n.val / 512) + n.val % 512 % 512) % 16384 = n.val
      omega
    · show t.val % 16 % 16 = t.val
      omega
  unfold chrAt cleaned
  show (if (BitVec.ofNat 32 (Fin.ofNat 16 t.val).val).slt (lenAt (blockN ln (n.val / 512)) (Fin.ofNat 512 (n.val % 512)).val) then _ else _) = _
  rw [hc, e0, e1, lenAt_block, place_slt t.val t.isLt _ hw]
  simp only [decide_eq_true_eq]

/-- The result of the kernel at row `n`, column `c`. -/
theorem pooled_apply (Tb : IVec S512x64 32) (ci : IVec S16384x16 32) (ln : IVec S16384 32)
    (h0 : ∀ j : Fin 64, Tb (ix2 (0 : Fin 512) j) = 0#32) (hl : ∀ i, (ln i).toNat ≤ 16) (n : Fin 16384) (c : Fin 128) :
    pooled (F := Ideal) Tb ci ln (ix2 n c) = sumAt Tb ci ln n c * Ideal.div 1 (denom (ln (ix1 n))) := by
  have er : 256 * (n.val % 512 / 256) + n.val % 256 % 256 = n.val % 512 := by omega
  have ec : (Fin.ofNat 128 c.val).val = c.val := by show c.val % 128 = _; omega
  show rowOut Tb (cleaned (blockC ci (n.val / 512)) (blockN ln (n.val / 512))) (blockN ln (n.val / 512))
    (256 * (n.val % 512 / 256) + n.val % 256 % 256) (256 * (n.val % 512 / 256) + mate (n.val % 256 % 256)) (Fin.ofNat 128 c.val).val = _
  rw [er, ec]
  generalize 256 * (n.val % 512 / 256) + mate (n.val % 256 % 256) = s
  unfold rowOut
  rw [sumUpTo_col, lenAt_block]
  have hs : scale (F := Ideal) (ln (ix1 n)) = Ideal.div 1 (denom (ln (ix1 n))) := by
    unfold scale denom
    exact congrArg (fun x => Ideal.div x _) Ideal.ofBits_one_f32
  rw [hs]
  refine congrArg (· * _) ?_
  have hlen : ∀ r, (lenAt (blockN ln (n.val / 512)) r).toNat ≤ 16 := fun r => hl _
  have h16 : cnt (blockN ln (n.val / 512)) (n.val % 512) s ≤ 16 := max_le (hlen _) (hlen _)
  have hge : (ln (ix1 n)).toNat ≤ cnt (blockN ln (n.val / 512)) (n.val % 512) s := by
    rw [← lenAt_block ln n]
    exact le_max_left _ _
  unfold sumAt
  rw [Finset.sum_subset (Finset.range_subset_range.2 h16), Finset.sum_range]
  · refine Finset.sum_congr rfl fun t _ => ?_
    rw [chrAt_block ci ln n t (hl _)]
    split
    · rfl
    · exact colVal_zero Tb h0 _
  · intro t ht hn
    have ht' : t < 16 := Finset.mem_range.1 ht
    have hn' : ¬ t < (ln (ix1 n)).toNat := fun h => hn (Finset.mem_range.2 (by omega))
    have := chrAt_block ci ln n ⟨t, ht'⟩ (hl _)
    simp only at this
    rw [this, if_neg hn']
    exact colVal_zero Tb h0 _

end Cert.Proof.Pool

end
-- ==== Proof.Mean.lean ====
/-
  The reference over the extended reals: row `n`, column `c`, of its result is the sum over the characters of word `n`
  within its length of the table's column `c`, over the length, and 0 for an empty word.
-/
module

public import proofs.«01_k».proof.Proof.Reads
public import proofs.«01_k».proof.Proof.Value
public import proofs.«01_k».proof.Proof.Gen.ReferenceIdeal.Run
public import Idealize.ShloMosaic.Lib.BitcastConvert

@[expose] public section

noncomputable section

namespace Cert.Proof.Pool.Ref

open Cert.ReferenceIdeal Cert.ReferenceIdeal.Gen
open Idealize.ShloMosaic

/-! ## The table -/

/-- The table's halves, as the packed words hold them. -/
def halves (Tb : IVec S512x64 32) : FVec Ideal S512x64x2 .bf16 :=
  bitcastToFloat (F := Ideal) .bf16 (Host.bitcastConvertNarrow S512x64x2 16 Tb splits_S512x64_w32_S512x64x2_w16)

/-- The table: the low halves' columns, then the high halves'. -/
def emb (Tb : IVec S512x64 32) : FVec Ideal S512x128 .f32 :=
  extf .f32 (concatenate S512x128 1
    [⟨S512x64, (shapeCast _ (extractStridedSlice S512x64x1 ![0, 0, 0] (halves Tb) slices_S512x64x2_S512x64x1_0_0_0) shapeCasts_S512x64x1_S512x64)⟩,
      ⟨S512x64, (shapeCast _ (extractStridedSlice S512x64x1 ![0, 0, 1] (halves Tb) slices_S512x64x2_S512x64x1_0_0_1) shapeCasts_S512x64x1_S512x64)⟩]
    concatenates_S512x64_S512x64_S512x128_d1) bitsLt_bf16_f32

/-- Half `u` of a word. -/
theorem halves_apply (Tb : IVec S512x64 32) (b : Fin 512) (j : Fin 64) (u : Fin 2) :
    halves Tb (ix3 b j u) = Ideal.ofBits .bf16 ((Tb (ix2 b j)).extractLsb' (u.val * 16) 16) := by
  unfold halves
  show Ideal.ofBits .bf16 (Host.bitcastConvertNarrow S512x64x2 16 Tb splits_S512x64_w32_S512x64x2_w16 (ix3 b j u)) = _
  rw [Host.bitcastConvertNarrow_apply]
  have e : Shape.SplitsWords.drop splits_S512x64_w32_S512x64x2_w16 (ix3 b j u) = ix2 b j := by
    funext a
    match a with
    | ⟨0, _⟩ => rfl
    | ⟨1, _⟩ => rfl
  rw [e]
  rfl

/-- The table's column `c`. -/
theorem emb_apply (Tb : IVec S512x64 32) (b : Fin 512) (c : Fin 128) : emb Tb (ix2 b c) = colVal Tb b.val c.val := by
  have hb : Fin.ofNat 512 b.val = b := Fin.ext (Nat.mod_eq_of_lt b.isLt)
  have hc := c.isLt
  by_cases h : c.val < 64
  · pointwise [emb, h]
    rw [halves_apply]
    unfold colVal tabAt
    rw [if_pos h, hb]
    have hj : Fin.ofNat 64 c.val = ⟨c.val, h⟩ := Fin.ext (Nat.mod_eq_of_lt h)
    rw [hj]
    rfl
  · pointwise [emb, h]
    rw [halves_apply]
    unfold colVal tabAt
    rw [if_neg h, hb]
    have hj : Fin.ofNat 64 (c.val - 64) = ⟨c.val - 64, by omega⟩ := Fin.ext (Nat.mod_eq_of_lt (by omega))
    rw [hj]
    rfl

/-! ## The rows taken from the table -/

/-- Whether a character names a row of the table. -/
def inside (cs : IVec S16384x16 32) : IVec S16384x16 1 :=
  Host.reduce IntOp.andi (andi (cmpi .sge (wrapChr cs) (broadcastInDim S16384x16x1 ![] bcast_S_S16384x16x1 (constantI S_ 32 0#32)))
    (cmpi .sle (wrapChr cs) (broadcastInDim S16384x16x1 ![0, 1, 2] bcast_S1x1x1_S16384x16x1_0_1_2 (broadcastInDim S1x1x1 ![2] bcast_S1_S1x1x1_2 (constantI S1 32 511#32)))))
    (constantI S_ 1 1#1) reducesTo_S16384x16x1_S16384x16_d2 h_S_

/-- The rows the characters name. -/
def taken (E : FVec Ideal S512x128 .f32) (cs : IVec S16384x16 32) : FVec Ideal S16384x16x128 .f32 :=
  select (broadcastInDim S16384x16x128 ![0, 1] bcast_S16384x16_S16384x16x128_0_1 (inside cs))
    (Host.gather gather_S512x128_S16384x16x1_S16384x16x128_2_0_n_n_0_2_1128 E (wrapChr cs))
    (broadcastInDim S16384x16x128 ![] bcast_S_S16384x16x128 (constant S_ .f32 0x7FC00000#32))

/-- A word from 0 to 511 passes both comparisons. -/
theorem between (w : BitVec 32) (h : w.toNat < 512) : IntOp.andi (IntOp.cmpi .sge w 0#32) (IntOp.cmpi .sle w 511#32) = 1#1 := by
  have h1 : (0#32).sle w = true := by
    rw [BitVec.sle_eq_decide, BitVec.toInt_eq_toNat_of_lt (x := w) (by omega)]
    simp
  have h2 : w.sle 511#32 = true := by
    rw [BitVec.sle_eq_decide, BitVec.toInt_eq_toNat_of_lt (x := w) (by omega)]
    simp
    omega
  simp only [IntOp.cmpi, h1, h2]
  rfl

/-- Every character names a row. -/
theorem inside_apply (cs : IVec S16384x16 32) (h : ∀ p t, (cs (ix2 p t)).toNat < 512) (j : S16384x16.Idx) : inside cs j = 1#1 := by
  unfold inside
  refine Host.reduce_andi_one _ _ _ _ j rfl fun i => ?_
  obtain ⟨p, t, u, rfl⟩ : ∃ (p : Fin 16384) (t : Fin 16) (u : Fin 1), i = ix3 p t u :=
    ⟨i 0, i 1, i 2, funext fun a => by match a with | ⟨0, _⟩ => rfl | ⟨1, _⟩ => rfl | ⟨2, _⟩ => rfl⟩
  refine (congrArg (fun w => IntOp.andi (IntOp.cmpi .sge w 0#32) (IntOp.cmpi .sle w 511#32)) (wrapChr_apply cs p t u (h p t))).trans ?_
  exact between _ (h p t)

/-- Column `c` of the row that character `t` of word `p` names. -/
theorem taken_apply (E : FVec Ideal S512x128 .f32) (cs : IVec S16384x16 32) (h : ∀ p t, (cs (ix2 p t)).toNat < 512)
    (p : Fin 16384) (t : Fin 16) (c : Fin 128) : taken E cs (ix3 p t c) = E (ix2 ⟨(cs (ix2 p t)).toNat, h p t⟩ c) := by
  have hg := takeEmb E (wrapChr cs) p t c ⟨(cs (ix2 p t)).toNat, h p t⟩ (congrArg BitVec.toNat (wrapChr_apply cs p t 0 (h p t)))
  pointwise [taken]
  rw [inside_apply cs h, hg]
  rfl

/-! ## The mean -/

/-- The means of the rows, for words with characters `cs` and lengths `ls`. -/
def means (E : FVec Ideal S512x128 .f32) (cs : IVec S16384x16 32) (ls : IVec S16384 32) : FVec Ideal S16384x128 .f32 :=
  mulf (Host.divf (Host.reduceAdd (mulf (taken E cs) (broadcastInDim S16384x16x128 ![0, 1, 2] bcast_S16384x16x1_S16384x16x128_0_1_2
      (broadcastInDim S16384x16x1 ![0, 1] bcast_S16384x16_S16384x16x1_0_1 (uitofp .f32 (cmpi .slt
        (broadcastInDim S16384x16 ![0, 1] bcast_S1x16_S16384x16_0_1 (broadcastInDim S1x16 ![1] bcast_S16_S1x16_1 (iotaInDim S16 32 0)))
        (broadcastInDim S16384x16 ![0, 1] bcast_S16384x1_S16384x16_0_1 (broadcastInDim S16384x1 ![0] bcast_S16384_S16384x1_0 ls))))))) (constant S_ .f32 0x00000000#32)
      reducesTo_S16384x16x128_S16384x128_d1 h_S_)
    (broadcastInDim S16384x128 ![0, 1] bcast_S16384x1_S16384x128_0_1 (broadcastInDim S16384x1 ![0] bcast_S16384_S16384x1_0
      (sitofp .f32 (maxsi ls (broadcastInDim S16384 ![] bcast_S_S16384 (constantI S_ 32 1#32)))))))
    (broadcastInDim S16384x128 ![0, 1] bcast_S16384x1_S16384x128_0_1 (broadcastInDim S16384x1 ![0] bcast_S16384_S16384x1_0
      (uitofp .f32 (cmpi .sgt ls (broadcastInDim S16384 ![] bcast_S_S16384 (constantI S_ 32 0#32))))))

/-- A comparison's bit as a number, 1 or 0. -/
theorem bit_val (b : Bool) : FloatOps.uitofp (F := Ideal) .f32 (BitVec.ofBool b) = if b then (1 : EReal) else 0 := by
  cases b
  · show (((0 : ℕ) : ℝ) : EReal) = 0
    simp
  · show (((1 : ℕ) : ℝ) : EReal) = 1
    simp

/-- A signed comparison as a number: below, -/
theorem slt_val (a b : BitVec 32) : FloatOps.uitofp (F := Ideal) .f32 (IntOp.cmpi .slt a b) = if a.slt b then (1 : EReal) else 0 := bit_val _
/-- and above. -/
theorem sgt_val (a b : BitVec 32) : FloatOps.uitofp (F := Ideal) .f32 (IntOp.cmpi .sgt a b) = if b.slt a then (1 : EReal) else 0 := bit_val _

/-- The means at row `p`, column `c`. -/
theorem means_apply (Tb : IVec S512x64 32) (cs : IVec S16384x16 32) (ls : IVec S16384 32) (h : ∀ p t, (cs (ix2 p t)).toNat < 512)
    (hl : ∀ p, (ls (ix1 p)).toNat ≤ 16) (p : Fin 16384) (c : Fin 128) :
    means (emb Tb) cs ls (ix2 p c)
      = Ideal.div (∑ t : Fin 16, if t.val < (ls (ix1 p)).toNat then colVal Tb (cs (ix2 p t)).toNat c.val else 0) (denom (ls (ix1 p)))
        * if 0 < (ls (ix1 p)).toNat then 1 else 0 := by
  pointwise [means]
  have hterm : ∀ t : Fin 16, taken (emb Tb) cs (ix3 p t c) * FloatOps.uitofp (F := Ideal) .f32 (IntOp.cmpi .slt (BitVec.ofNat 32 t.val) (ls (ix1 p)))
      = if t.val < (ls (ix1 p)).toNat then colVal Tb (cs (ix2 p t)).toNat c.val else 0 := fun t => by
    rw [taken_apply (emb Tb) cs h, emb_apply, slt_val, place_slt t.val t.isLt _ (hl p)]
    simp only [decide_eq_true_eq]
    split
    · exact mul_one _
    · exact mul_zero _
  have hpos : FloatOps.uitofp (F := Ideal) .f32 (IntOp.cmpi .sgt (ls (ix1 p)) 0#32) = if 0 < (ls (ix1 p)).toNat then 1 else 0 := by
    rw [sgt_val, place_slt 0 (by omega) _ (hl p)]
    simp only [decide_eq_true_eq]
  rw [Finset.sum_congr rfl fun t _ => hterm t, hpos]
  rfl

/-- A divisor is not zero. -/
theorem denom_ne_zero (w : BitVec 32) (h : w.toNat ≤ 16) : denom w ≠ 0 := by
  have e : (IntOp.maxsi w 1#32).toInt ≠ 0 := by
    by_cases hw : w.toNat ≤ 1
    · have : w = 0#32 ∨ w = 1#32 := by
        rcases Nat.le_one_iff_eq_zero_or_eq_one.1 hw with h | h
        · exact .inl (BitVec.eq_of_toNat_eq h)
        · exact .inr (BitVec.eq_of_toNat_eq h)
      rcases this with rfl | rfl <;> decide
    · have hs : (1#32).slt w = true := (place_slt 1 (by omega) w h).trans (decide_eq_true (by omega))
      unfold IntOp.maxsi
      rw [if_pos hs, BitVec.toInt_eq_toNat_of_lt (by omega)]
      omega
  show (((IntOp.maxsi w 1#32).toInt : ℝ) : EReal) ≠ 0
  exact_mod_cast e

/-- The mean by division, and 0 for an empty word, is the sum times one over the length. -/
theorem mean_eq (s : EReal) (w : BitVec 32) (h : w.toNat ≤ 16) (h0 : w.toNat = 0 → s = 0) :
    Ideal.div s (denom w) * (if 0 < w.toNat then 1 else 0) = s * Ideal.div 1 (denom w) := by
  unfold Ideal.div
  rw [if_neg (denom_ne_zero w h), if_neg (denom_ne_zero w h), one_mul]
  split
  · exact mul_one _
  · rw [h0 (by omega), zero_mul, zero_mul]

/-! ## The whole reference -/

/-- The words in order of descending length. -/
abbrev ord (ln : IVec S16384 32) : IVec S16384 32 := order (negi ln)

/-- The reference: the words sorted, their means, and the rows put back. -/
def result (Tb : IVec S512x64 32) (ci : IVec S16384x16 32) (ln : IVec S16384 32) : FVec Ideal S16384x128 .f32 :=
  Host.scatter scatter_S16384x128_S16384x1_S16384x128_1_0_0_1 (fun _ b => b)
    (broadcastInDim S16384x128 ![] bcast_S_S16384x128 (constant (F := Ideal) S_ .f32 0x00000000#32)) (wrapWord (ord ln))
    (means (emb Tb) (Host.gather gather_S16384x16_S16384x1_S16384x16_1_0_n_n_0_1_116 ci (wrapWord (ord ln)))
      (Host.gather gather_S16384_S16384x1_S16384_n_0_n_n_0_1_1 ln (wrapWord (ord ln))))

/-- The reference and the kernel compute one array. -/
theorem result_eq (Tb : IVec S512x64 32) (ci : IVec S16384x16 32) (ln : IVec S16384 32)
    (h0 : ∀ j : Fin 64, Tb (ix2 (0 : Fin 512) j) = 0#32) (hc : ∀ i, (ci i).toNat < 512) (hl : ∀ i, (ln i).toNat ≤ 16) :
    result Tb ci ln = pooled (F := Ideal) Tb ci ln := by
  funext i
  obtain ⟨n, c, rfl⟩ : ∃ (n : Fin 16384) (c : Fin 128), i = ix2 n c := ⟨i 0, i 1, funext fun a => by match a with | ⟨0, _⟩ => rfl | ⟨1, _⟩ => rfl⟩
  obtain ⟨p, hp⟩ := src_surjective (negi ln) n
  have hord := order_apply (negi ln)
  unfold result
  rw [putBack _ _ (ord ln) (src (negi ln)) (src_injective _) hord p n hp c]
  have eL : ∀ q, Host.gather gather_S16384_S16384x1_S16384_n_0_n_n_0_1_1 ln (wrapWord (ord ln)) (ix1 q) = ln (ix1 (src (negi ln) q)) := fun q =>
    takeLen ln (ord ln) q _ (hord q)
  have eC : ∀ q t, Host.gather gather_S16384x16_S16384x1_S16384x16_1_0_n_n_0_1_116 ci (wrapWord (ord ln)) (ix2 q t) = ci (ix2 (src (negi ln) q) t) := fun q t =>
    takeRow ci (ord ln) q _ t (hord q)
  rw [means_apply Tb _ _ (fun q t => by rw [eC]; exact hc _) (fun q => by rw [eL]; exact hl _), eL]
  simp only [eC, hp]
  refine (mean_eq _ _ (hl _) fun hz => Finset.sum_eq_zero fun t _ => if_neg (by omega)).trans ?_
  exact (pooled_apply Tb ci ln h0 hl n c).symm

/-- What the reference's run leaves as its first result. -/
theorem res_eq (m : (ℓ : Loc nD τ sig) → Buf (Elt Ideal) ℓ) (c : Dev nD) :
    Cert.ReferenceIdeal.Value.res_out0 m c = shapeCast S16x1024x128
      (result (m ((c.tc : Thread nD τ).loc main_arg2)) (shapeCast S16384x16 (m ((c.tc : Thread nD τ).loc main_arg0)) shapeCasts_S16x1024x16_S16384x16)
        (shapeCast S16384 (m ((c.tc : Thread nD τ).loc main_arg1)) shapeCasts_S16x1024_S16384)) shapeCasts_S16384x128_S16x1024x128 := by
  unfold Cert.ReferenceIdeal.Value.res_out0 Cert.ReferenceIdeal.Value.res_main_v57 result means taken inside wrapChr wrapWord emb halves ord order
  rfl

end Cert.Proof.Pool.Ref

end
-- ==== Proof.lean ====
/-
  The certificate: the pooling kernel and the reference run to the end, leave their arguments as they were and every
  counter at zero, and over the extended reals compute the same means and return the same lengths.
-/
module

public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Ranges
public import proofs.«01_k».proof.Proof.Mean
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.Pool

/-- The kernel's run on its own floats: the arguments unchanged, the counters at zero. -/
theorem frame_kernel : Cert.quiescent_Kernel := fun m ρ h =>
  (θ_run Cert.KernelIdeal.defs _ _).mono (fun _ q => ⟨fun c => ⟨(q.1 c).1, (q.1 c).2.1, (q.1 c).2.2.1⟩, q.2⟩)
    (run_main (F := Bits) m ρ (preOK (F := Bits) m h))

/-- The kernel's run over the extended reals. -/
theorem frame_ideal : Cert.quiescent_KernelIdeal := fun m ρ h =>
  (θ_run Cert.KernelIdeal.defs _ _).mono (fun _ q => ⟨fun c => ⟨(q.1 c).1, (q.1 c).2.1, (q.1 c).2.2.1⟩, q.2⟩)
    (run_main (F := Ideal) m ρ (preOK (F := Ideal) m h))

/-- The reference's run; it declares no counter. -/
theorem frame_reference : Cert.quiescent_ReferenceIdeal := fun m ρ _ =>
  (θ_run Cert.ReferenceIdeal.defs _ _).mono (fun r q => ⟨fun c => (q c).2.2, sem_eq_zero_of_no_sems rfl r.2⟩)
    (Cert.ReferenceIdeal.Value.run (F := Ideal) m ρ)

/-- From one launch memory the kernel and the reference leave the same means and the same lengths. -/
theorem same_values : Cert.algebraic_KernelIdeal_ReferenceIdeal := fun m ρ m' ρ' h hm =>
  have hp : PreOK m := preOK (F := Ideal) m h
  ⟨fun d => reOf m d, fun d => lnOf m d,
    (θ_run Cert.KernelIdeal.defs _ _).mono
      (fun _ q c => ⟨(q.1 c).2.2.2.2, (q.1 c).2.2.2.1, (q.1 c).1, (q.1 c).2.1, (q.1 c).2.2.1⟩) (run_main (F := Ideal) m ρ hp),
    (θ_run Cert.ReferenceIdeal.defs _ _).mono
      (fun _ q c => ⟨(q c).1.trans (by
          refine (Ref.res_eq m' c).trans ?_
          rw [(hm c).1, (hm c).2.1, (hm c).2.2]
          exact congrArg (fun v => shapeCast Cert.ReferenceIdeal.S16x1024x128 v _)
            (Ref.result_eq _ _ _ (pre_reads (F := Ideal) _ _ _ (h c)).2.2 (hp c).1 (hp c).2)),
        (q c).2.1.trans (by rw [(hm c).2.1]; rfl), (q c).2.2⟩)
      (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts, Cert.Pre_in_range.Gen.facts,
    frame_kernel, frame_ideal, frame_reference, trivial, same_values⟩

end Cert.Proof

end
